-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v321) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1000000 : Shape := ⟨2, ![32, 1000000]⟩
abbrev S32x512 : Shape := ⟨2, ![32, 512]⟩
abbrev S32x1 : Shape := ⟨2, ![32, 1]⟩
abbrev S32 : Shape := ⟨1, ![32]⟩
abbrev S32x32768 : Shape := ⟨2, ![32, 32768]⟩

abbrev nBuf : Space → Nat
  | .hbm => 5
  | .vmem => 7
  | .smem => 0
  | _ => 0

abbrev bufTy : (tb : Table) → Fin (tcTables nBuf tb) → BufTy
  | .hbm, ⟨0, _⟩ => ⟨S32x1000000, .f32⟩
  | .hbm, ⟨1, _⟩ => ⟨S32x512, .i32⟩
  | .hbm, ⟨2, _⟩ => ⟨S32x512, .i32⟩
  | .hbm, ⟨3, _⟩ => ⟨S32x1, .i32⟩
  | .hbm, ⟨4, _⟩ => ⟨S32, .i32⟩
  | .local _ .vmem, ⟨0, _⟩ => ⟨S32x32768, .f32⟩
  | .local _ .vmem, ⟨1, _⟩ => ⟨S32x32768, .f32⟩
  | .local _ .vmem, ⟨2, _⟩ => ⟨S32x512, .i32⟩
  | .local _ .vmem, ⟨3, _⟩ => ⟨S32x512, .i32⟩
  | .local _ .vmem, ⟨4, _⟩ => ⟨S32x1, .i32⟩
  | .local _ .vmem, ⟨5, _⟩ => ⟨S32x512, .f32⟩
  | .local _ .vmem, ⟨6, _⟩ => ⟨S32x512, .i32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_call0_c : Ref sig .tc := ⟨.hbm, 1, rfl⟩
abbrev main_call0_c_0 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![31], ![false]⟩

def k0_cond2 (i : grid0.Coords) : BitVec 1 :=
  let arg0 : BitVec 32 := BitVec.ofNat 32 (i 0).val
  let c30_i32 : BitVec 32 := 30#32
  let v5 : BitVec 1 := Scalar.cmpi .slt arg0 c30_i32
  let v6 : BitVec 32 := Scalar.extui v5
  let c0_i32_4 : BitVec 32 := 0#32
  let v7 : BitVec 1 := Scalar.cmpi .ne v6 c0_i32_4
  v7

@[reducible] def k0_t1_loop : Scf.Loop 32 :=
  let c0_i32_7 : BitVec 32 := 0#32
  let c64_i32 : BitVec 32 := 64#32
  let v11 : BitVec 32 := Scalar.addi c0_i32_7 c64_i32
  let c1_i32 : BitVec 32 := 1#32
  ⟨c0_i32_7, v11, c1_i32⟩
def k0_off1 (k0_t1 : Fin k0_t1_loop.trips) : Fin 2 → Nat :=
  let c0_45 : Index := 0#32
  let c0_i32_7 : BitVec 32 := 0#32
  let c1_i32 : BitVec 32 := 1#32
  let arg7 : BitVec 32 := Scf.iv c0_i32_7 c1_i32 k0_t1
  let c512_i32_44 : BitVec 32 := 512#32
  let v194 : BitVec 32 := Scalar.muli arg7 c512_i32_44
  let v195 : Index := Scalar.indexCast v194
  ![0, v195.toNat]
def k0_cond3 (i : grid0.Coords) : BitVec 1 :=
  let arg0 : BitVec 32 := BitVec.ofNat 32 (i 0).val
  let c30_i32_5 : BitVec 32 := 30#32
  let v8 : BitVec 1 := Scalar.cmpi .eq arg0 c30_i32_5
  let v9 : BitVec 32 := Scalar.extui v8
  let c0_i32_6 : BitVec 32 := 0#32
  let v10 : BitVec 1 := Scalar.cmpi .ne v9 c0_i32_6
  v10

@[reducible] def k0_t2_loop : Scf.Loop 32 :=
  let c0_i32_7 : BitVec 32 := 0#32
  let c64_i32 : BitVec 32 := 64#32
  let v11 : BitVec 32 := Scalar.addi c0_i32_7 c64_i32
  let c1_i32 : BitVec 32 := 1#32
  ⟨c0_i32_7, v11, c1_i32⟩
def k0_off2 (k0_t2 : Fin k0_t2_loop.trips) : Fin 2 → Nat :=
  let c0_54 : Index := 0#32
  let c0_i32_7 : BitVec 32 := 0#32
  let c1_i32 : BitVec 32 := 1#32
  let arg7 : BitVec 32 := Scf.iv c0_i32_7 c1_i32 k0_t2
  let c512_i32_53 : BitVec 32 := 512#32
  let v208 : BitVec 32 := Scalar.muli arg7 c512_i32_53
  let v209 : Index := Scalar.indexCast v208
  ![0, v209.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S32x1000000 : Shape := ⟨2, ![32, 1000000]⟩
abbrev S_ : Shape := ⟨0, ![]⟩
abbrev S32 : Shape := ⟨1, ![32]⟩
abbrev S32x1 : Shape := ⟨2, ![32, 1]⟩

abbrev nBuf : Space → Nat
  | .hbm => 440
  | .vmem => 0
  | .smem => 0
  | _ => 0

abbrev hbmTy0_0 (i : Nat) : BufTy := match i % 128 with
  | 0 => ⟨S32x1000000, .f32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S32x1000000, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S32x1000000, .i32⟩
  | 51 => ⟨S32x1000000, .i32⟩
  | 52 => ⟨S_, .i32⟩
  | 53 => ⟨S32x1000000, .i32⟩
  | 54 => ⟨S32x1000000, .i32⟩
  | 55 => ⟨S32x1000000, .i32⟩
  | 56 => ⟨S_, .i32⟩
  | 57 => ⟨S32x1000000, .i32⟩
  | 58 => ⟨S_, .i32⟩
  | 59 => ⟨S_, .i32⟩
  | 60 => ⟨S_, .i32⟩
  | 61 => ⟨S32x1000000, .i32⟩
  | 62 => ⟨S32x1000000, .i32⟩
  | 63 => ⟨S32x1000000, .i32⟩
  | 64 => ⟨S32x1000000, .i32⟩
  | 65 => ⟨S32x1000000, .i32⟩
  | 66 => ⟨S_, .i32⟩
  | 67 => ⟨S32x1000000, .i32⟩
  | 68 => ⟨S32x1000000, .i32⟩
  | 69 => ⟨S_, .i32⟩
  | 70 => ⟨S32x1000000, .i32⟩
  | 71 => ⟨S32x1000000, .i32⟩
  | 72 => ⟨S32x1000000, .i32⟩
  | 73 => ⟨S32x1000000, .i32⟩
  | 74 => ⟨S32x1000000, .i32⟩
  | 75 => ⟨S_, .i32⟩
  | 76 => ⟨S32x1000000, .i32⟩
  | 77 => ⟨S32x1000000, .i32⟩
  | 78 => ⟨S_, .i32⟩
  | 79 => ⟨S32x1000000, .i32⟩
  | 80 => ⟨S32x1000000, .i32⟩
  | 81 => ⟨S32x1000000, .i32⟩
  | 82 => ⟨S32x1000000, .i32⟩
  | 83 => ⟨S32x1000000, .i32⟩
  | 84 => ⟨S_, .i32⟩
  | 85 => ⟨S32x1000000, .i32⟩
  | 86 => ⟨S32x1000000, .i32⟩
  | 87 => ⟨S_, .i32⟩
  | 88 => ⟨S32x1000000, .i32⟩
  | 89 => ⟨S32x1000000, .i32⟩
  | 90 => ⟨S32x1000000, .i32⟩
  | 91 => ⟨S32x1000000, .i32⟩
  | 92 => ⟨S32x1000000, .i32⟩
  | 93 => ⟨S_, .i32⟩
  | 94 => ⟨S32x1000000, .i32⟩
  | 95 => ⟨S32x1000000, .i32⟩
  | 96 => ⟨S_, .i32⟩
  | 97 => ⟨S32x1000000, .i32⟩
  | 98 => ⟨S32x1000000, .i32⟩
  | 99 => ⟨S32x1000000, .i32⟩
  | 100 => ⟨S32x1000000, .i32⟩
  | 101 => ⟨S32x1000000, .i32⟩
  | 102 => ⟨S32x1000000, .i32⟩
  | 103 => ⟨S_, .i32⟩
  | 104 => ⟨S_, .i32⟩
  | 105 => ⟨S32x1000000, .i32⟩
  | 106 => ⟨S32x1000000, .i32⟩
  | 107 => ⟨S32x1000000, .i32⟩
  | 108 => ⟨S_, .i32⟩
  | 109 => ⟨S32x1000000, .i32⟩
  | 110 => ⟨S32x1000000, .i32⟩
  | 111 => ⟨S_, .i32⟩
  | 112 => ⟨S32x1000000, .i32⟩
  | 113 => ⟨S32x1000000, .i32⟩
  | 114 => ⟨S32x1000000, .i32⟩
  | 115 => ⟨S32x1000000, .i32⟩
  | 116 => ⟨S32x1000000, .i32⟩
  | 117 => ⟨S_, .i32⟩
  | 118 => ⟨S32x1000000, .i32⟩
  | 119 => ⟨S32x1000000, .i32⟩
  | 120 => ⟨S_, .i32⟩
  | 121 => ⟨S32x1000000, .i32⟩
  | 122 => ⟨S32x1000000, .i32⟩
  | 123 => ⟨S32x1000000, .i32⟩
  | 124 => ⟨S32x1000000, .i32⟩
  | 125 => ⟨S32x1000000, .i32⟩
  | 126 => ⟨S_, .i32⟩
  | 127 => ⟨S32x1000000, .i32⟩
  | _ => ⟨S32x1000000, .f32⟩

abbrev hbmTy0_2 (i : Nat) : BufTy := match i % 128 with
  | 0 => ⟨S32x1000000, .i32⟩
  | 1 => ⟨S_, .i32⟩
  | 2 => ⟨S32x1000000, .i32⟩
  | 3 => ⟨S32x1000000, .i32⟩
  | 4 => ⟨S32x1000000, .i32⟩
  | 5 => ⟨S32x1000000, .i32⟩
  | 6 => ⟨S32x1000000, .i32⟩
  | 7 => ⟨S_, .i32⟩
  | 8 => ⟨S32x1000000, .i32⟩
  | 9 => ⟨S32x1000000, .i32⟩
  | 10 => ⟨S_, .i32⟩
  | 11 => ⟨S32x1000000, .i32⟩
  | 12 => ⟨S32x1000000, .i32⟩
  | 13 => ⟨S32x1000000, .i32⟩
  | 14 => ⟨S32x1000000, .i32⟩
  | 15 => ⟨S32x1000000, .i32⟩
  | 16 => ⟨S32x1000000, .i32⟩
  | 17 => ⟨S_, .i32⟩
  | 18 => ⟨S_, .i32⟩
  | 19 => ⟨S32x1000000, .i32⟩
  | 20 => ⟨S32x1000000, .i32⟩
  | 21 => ⟨S32x1000000, .i32⟩
  | 22 => ⟨S_, .i32⟩
  | 23 => ⟨S32x1000000, .i32⟩
  | 24 => ⟨S32x1000000, .i32⟩
  | 25 => ⟨S_, .i32⟩
  | 26 => ⟨S32x1000000, .i32⟩
  | 27 => ⟨S32x1000000, .i32⟩
  | 28 => ⟨S32x1000000, .i32⟩
  | 29 => ⟨S32x1000000, .i32⟩
  | 30 => ⟨S32x1000000, .i32⟩
  | 31 => ⟨S_, .i32⟩
  | 32 => ⟨S32x1000000, .i32⟩
  | 33 => ⟨S32x1000000, .i32⟩
  | 34 => ⟨S_, .i32⟩
  | 35 => ⟨S32x1000000, .i32⟩
  | 36 => ⟨S32x1000000, .i32⟩
  | 37 => ⟨S32x1000000, .i32⟩
  | 38 => ⟨S32x1000000, .i32⟩
  | 39 => ⟨S32x1000000, .i32⟩
  | 40 => ⟨S_, .i32⟩
  | 41 => ⟨S32x1000000, .i32⟩
  | 42 => ⟨S32x1000000, .i32⟩
  | 43 => ⟨S_, .i32⟩
  | 44 => ⟨S32x1000000, .i32⟩
  | 45 => ⟨S32x1000000, .i32⟩
  | 46 => ⟨S32x1000000, .i32⟩
  | 47 => ⟨S32x1000000, .i32⟩
  | 48 => ⟨S32x1000000, .i32⟩
  | 49 => ⟨S_, .i32⟩
  | 50 => ⟨S32x1000000, .i32⟩
  | 51 => ⟨S32x1000000, .i32⟩
  | 52 => ⟨S_, .i32⟩
  | 53 => ⟨S32x1000000, .i32⟩
  | 54 => ⟨S32x1000000, .i32⟩
  | 55 => ⟨S32x1000000, .i32⟩
  | 56 => ⟨S32x1000000, .i32⟩
  | 57 => ⟨S32x1000000, .i32⟩
  | 58 => ⟨S32x1000000, .i32⟩
  | 59 => ⟨S_, .i32⟩
  | 60 => ⟨S_, .i32⟩
  | 61 => ⟨S32x1000000, .i32⟩
  | 62 => ⟨S32x1000000, .i32⟩
  | 63 => ⟨S32x1000000, .i32⟩
  | 64 => ⟨S_, .i32⟩
  | 65 => ⟨S32x1000000, .i32⟩
  | 66 => ⟨S32x1000000, .i32⟩
  | 67 => ⟨S_, .i32⟩
  | 68 => ⟨S32x1000000, .i32⟩
  | 69 => ⟨S32x1000000, .i32⟩
  | 70 => ⟨S32x1000000, .i32⟩
  | 71 => ⟨S32x1000000, .i32⟩
  | 72 => ⟨S32x1000000, .i32⟩
  | 73 => ⟨S_, .i32⟩
  | 74 => ⟨S32x1000000, .i32⟩
  | 75 => ⟨S32x1000000, .i32⟩
  | 76 => ⟨S_, .i32⟩
  | 77 => ⟨S32x1000000, .i32⟩
  | 78 => ⟨S32x1000000, .i32⟩
  | 79 => ⟨S32x1000000, .i32⟩
  | 80 => ⟨S32x1000000, .i32⟩
  | 81 => ⟨S32x1000000, .i32⟩
  | 82 => ⟨S_, .i32⟩
  | 83 => ⟨S32x1000000, .i32⟩
  | 84 => ⟨S32x1000000, .i32⟩
  | 85 => ⟨S_, .i32⟩
  | 86 => ⟨S32x1000000, .i32⟩
  | 87 => ⟨S32x1000000, .i32⟩
  | 88 => ⟨S32x1000000, .i32⟩
  | 89 => ⟨S32x1000000, .i32⟩
  | 90 => ⟨S32x1000000, .i32⟩
  | 91 => ⟨S_, .i32⟩
  | 92 => ⟨S32x1000000, .i32⟩
  | 93 => ⟨S32x1000000, .i32⟩
  | 94 => ⟨S_, .i32⟩
  | 95 => ⟨S32x1000000, .i32⟩
  | 96 => ⟨S32x1000000, .i32⟩
  | 97 => ⟨S32x1000000, .i32⟩
  | 98 => ⟨S32x1000000, .i32⟩
  | 99 => ⟨S32x1000000, .i32⟩
  | 100 => ⟨S32x1000000, .i32⟩
  | 101 => ⟨S_, .i32⟩
  | 102 => ⟨S_, .i32⟩
  | 103 => ⟨S32x1000000, .i32⟩
  | 104 => ⟨S32x1000000, .i32⟩
  | 105 => ⟨S32x1000000, .i32⟩
  | 106 => ⟨S_, .i32⟩
  | 107 => ⟨S32x1000000, .i32⟩
  | 108 => ⟨S32x1000000, .i32⟩
  | 109 => ⟨S_, .i32⟩
  | 110 => ⟨S32x1000000, .i32⟩
  | 111 => ⟨S32x1000000, .i32⟩
  | 112 => ⟨S32x1000000, .i32⟩
  | 113 => ⟨S32x1000000, .i32⟩
  | 114 => ⟨S32x1000000, .i32⟩
  | 115 => ⟨S_, .i32⟩
  | 116 => ⟨S32x1000000, .i32⟩
  | 117 => ⟨S32x1000000, .i32⟩
  | 118 => ⟨S_, .i32⟩
  | 119 => ⟨S32x1000000, .i32⟩
  | 120 => ⟨S32x1000000, .i32⟩
  | 121 => ⟨S32x1000000, .i32⟩
  | 122 => ⟨S32x1000000, .i32⟩
  | 123 => ⟨S32x1000000, .i32⟩
  | 124 => ⟨S_, .i32⟩
  | 125 => ⟨S32x1000000, .i32⟩
  | 126 => ⟨S32x1000000, .i32⟩
  | 127 => ⟨S_, .i32⟩
  | _ => ⟨S32x1000000, .f32⟩

abbrev hbmTy0_3 (i : Nat) : BufTy := match i % 128 with
  | 0 => ⟨S32x1000000, .i32⟩
  | 1 => ⟨S32x1000000, .i32⟩
  | 2 => ⟨S32x1000000, .i32⟩
  | 3 => ⟨S32x1000000, .i32⟩
  | 4 => ⟨S32x1000000, .i32⟩
  | 5 => ⟨S_, .i32⟩
  | 6 => ⟨S32x1000000, .i32⟩
  | 7 => ⟨S32x1000000, .i32⟩
  | 8 => ⟨S_, .i32⟩
  | 9 => ⟨S32x1000000, .i32⟩
  | 10 => ⟨S32x1000000, .i32⟩
  | 11 => ⟨S32x1000000, .i32⟩
  | 12 => ⟨S32x1000000, .i32⟩
  | 13 => ⟨S32x1000000, .i32⟩
  | 14 => ⟨S32x1000000, .i32⟩
  | 15 => ⟨S_, .i32⟩
  | 16 => ⟨S_, .i32⟩
  | 17 => ⟨S32x1000000, .i32⟩
  | 18 => ⟨S32x1000000, .i32⟩
  | 19 => ⟨S32x1000000, .i32⟩
  | 20 => ⟨S_, .i32⟩
  | 21 => ⟨S32x1000000, .i32⟩
  | 22 => ⟨S32x1000000, .i32⟩
  | 23 => ⟨S_, .i32⟩
  | 24 => ⟨S32x1000000, .i32⟩
  | 25 => ⟨S32x1000000, .i32⟩
  | 26 => ⟨S32x1000000, .f32⟩
  | 27 => ⟨S_, .f32⟩
  | 28 => ⟨S32x1000000, .f32⟩
  | 29 => ⟨S32x1000000, .f32⟩
  | 30 => ⟨S_, .f32⟩
  | 31 => ⟨S32x1000000, .f32⟩
  | 32 => ⟨S32x1000000, .f32⟩
  | 33 => ⟨S_, .f32⟩
  | 34 => ⟨S32x1000000, .f32⟩
  | 35 => ⟨S32x1000000, .f32⟩
  | 36 => ⟨S_, .f32⟩
  | 37 => ⟨S32x1000000, .f32⟩
  | 38 => ⟨S32x1000000, .f32⟩
  | 39 => ⟨S32x1000000, .f32⟩
  | 40 => ⟨S32x1000000, .f32⟩
  | 41 => ⟨S32x1000000, .f32⟩
  | 42 => ⟨S32x1000000, .f32⟩
  | 43 => ⟨S32x1000000, .f32⟩
  | 44 => ⟨S_, .f32⟩
  | 45 => ⟨S32, .f32⟩
  | 46 => ⟨S32x1, .f32⟩
  | 47 => ⟨S32x1000000, .i32⟩
  | 48 => ⟨S32x1000000, .f32⟩
  | 49 => ⟨S32x1000000, .i1⟩
  | 50 => ⟨S_, .i32⟩
  | 51 => ⟨S_, .i32⟩
  | 52 => ⟨S32x1000000, .i32⟩
  | 53 => ⟨S32x1000000, .i32⟩
  | 54 => ⟨S_, .i32⟩
  | 55 => ⟨S32, .i32⟩
  | _ => ⟨S32x1000000, .f32⟩

abbrev hbmTy (i : Nat) : BufTy := match i / 128 with
  | 0 => hbmTy0_0 i
  | 1 => hbmTy0_1 i
  | 2 => hbmTy0_2 i
  | 3 => hbmTy0_3 i
  | _ => ⟨S32x1000000, .f32⟩

abbrev bufTy : (tb : Table) → Fin (tcTables nBuf tb) → BufTy
  | .hbm, ⟨i, _⟩ => hbmTy i
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_c_1 : Ref sig .tc := ⟨.hbm, 4, rfl⟩
abbrev main_v1 : Ref sig .tc := ⟨.hbm, 5, rfl⟩
abbrev main_c_2 : Ref sig .tc := ⟨.hbm, 6, rfl⟩
abbrev main_c_3 : Ref sig .tc := ⟨.hbm, 7, rfl⟩
abbrev main_v2 : Ref sig .tc := ⟨.hbm, 8, rfl⟩
abbrev main_c_4 : Ref sig .tc := ⟨.hbm, 9, rfl⟩
abbrev main_c_5 : Ref sig .tc := ⟨.hbm, 10, rfl⟩
abbrev main_v3 : Ref sig .tc := ⟨.hbm, 11, rfl⟩
abbrev main_v4 : Ref sig .tc := ⟨.hbm, 12, rfl⟩
abbrev main_c_6 : Ref sig .tc := ⟨.hbm, 13, rfl⟩
abbrev main_v5 : Ref sig .tc := ⟨.hbm, 14, rfl⟩
abbrev main_c_7 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_8 : Ref sig .tc := ⟨.hbm, 20, rfl⟩
abbrev main_v10 : Ref sig .tc := ⟨.hbm, 21, rfl⟩
abbrev main_c_9 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_10 : Ref sig .tc := ⟨.hbm, 27, rfl⟩
abbrev main_v15 : Ref sig .tc := ⟨.hbm, 28, rfl⟩
abbrev main_c_11 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_12 : Ref sig .tc := ⟨.hbm, 34, rfl⟩
abbrev main_v20 : Ref sig .tc := ⟨.hbm, 35, rfl⟩
abbrev main_c_13 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_14 : Ref sig .tc := ⟨.hbm, 40, rfl⟩
abbrev main_v24 : Ref sig .tc := ⟨.hbm, 41, rfl⟩
abbrev main_c_15 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_16 : Ref sig .tc := ⟨.hbm, 46, rfl⟩
abbrev main_v28 : Ref sig .tc := ⟨.hbm, 47, rfl⟩
abbrev main_c_17 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_18 : Ref sig .tc := ⟨.hbm, 53, rfl⟩
abbrev main_v33 : Ref sig .tc := ⟨.hbm, 54, rfl⟩
abbrev main_c_19 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_20 : Ref sig .tc := ⟨.hbm, 60, rfl⟩
abbrev main_v38 : Ref sig .tc := ⟨.hbm, 61, rfl⟩
abbrev main_c_21 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_22 : Ref sig .tc := ⟨.hbm, 67, rfl⟩
abbrev main_v43 : Ref sig .tc := ⟨.hbm, 68, rfl⟩
abbrev main_c_23 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_24 : Ref sig .tc := ⟨.hbm, 74, rfl⟩
abbrev main_c_25 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_26 : Ref sig .tc := ⟨.hbm, 79, rfl⟩
abbrev main_v51 : Ref sig .tc := ⟨.hbm, 80, rfl⟩
abbrev main_c_27 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_28 : Ref sig .tc := ⟨.hbm, 86, rfl⟩
abbrev main_v56 : Ref sig .tc := ⟨.hbm, 87, rfl⟩
abbrev main_c_29 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_30 : Ref sig .tc := ⟨.hbm, 93, rfl⟩
abbrev main_v61 : Ref sig .tc := ⟨.hbm, 94, rfl⟩
abbrev main_c_31 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_c_32 : Ref sig .tc := ⟨.hbm, 100, rfl⟩
abbrev main_v66 : Ref sig .tc := ⟨.hbm, 101, rfl⟩
abbrev main_c_33 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_c_34 : Ref sig .tc := ⟨.hbm, 106, rfl⟩
abbrev main_v70 : Ref sig .tc := ⟨.hbm, 107, rfl⟩
abbrev main_c_35 : Ref sig .tc := ⟨.hbm, 108, rfl⟩
abbrev main_c_36 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_c_37 : Ref sig .tc := ⟨.hbm, 113, rfl⟩
abbrev main_v74 : Ref sig .tc := ⟨.hbm, 114, rfl⟩
abbrev main_c_38 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_c_39 : Ref sig .tc := ⟨.hbm, 120, rfl⟩
abbrev main_v79 : Ref sig .tc := ⟨.hbm, 121, rfl⟩
abbrev main_c_40 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_c_41 : Ref sig .tc := ⟨.hbm, 127, rfl⟩
abbrev main_v84 : Ref sig .tc := ⟨.hbm, 128, rfl⟩
abbrev main_c_42 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_c_43 : Ref sig .tc := ⟨.hbm, 134, rfl⟩
abbrev main_v89 : Ref sig .tc := ⟨.hbm, 135, rfl⟩
abbrev main_c_44 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_c_45 : Ref sig .tc := ⟨.hbm, 140, rfl⟩
abbrev main_v93 : Ref sig .tc := ⟨.hbm, 141, rfl⟩
abbrev main_c_46 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_c_47 : Ref sig .tc := ⟨.hbm, 146, rfl⟩
abbrev main_v97 : Ref sig .tc := ⟨.hbm, 147, rfl⟩
abbrev main_c_48 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_c_49 : Ref sig .tc := ⟨.hbm, 153, rfl⟩
abbrev main_v102 : Ref sig .tc := ⟨.hbm, 154, rfl⟩
abbrev main_c_50 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_c_51 : Ref sig .tc := ⟨.hbm, 160, rfl⟩
abbrev main_v107 : Ref sig .tc := ⟨.hbm, 161, rfl⟩
abbrev main_c_52 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_c_53 : Ref sig .tc := ⟨.hbm, 167, rfl⟩
abbrev main_v112 : Ref sig .tc := ⟨.hbm, 168, rfl⟩
abbrev main_c_54 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_c_55 : Ref sig .tc := ⟨.hbm, 174, rfl⟩
abbrev main_c_56 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_c_57 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_c_58 : Ref sig .tc := ⟨.hbm, 184, rfl⟩
abbrev main_v124 : Ref sig .tc := ⟨.hbm, 185, rfl⟩
abbrev main_v125 : Ref sig .tc := ⟨.hbm, 186, rfl⟩
abbrev main_c_59 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_c_60 : Ref sig .tc := ⟨.hbm, 194, rfl⟩
abbrev main_v132 : Ref sig .tc := ⟨.hbm, 195, rfl⟩
abbrev main_v133 : Ref sig .tc := ⟨.hbm, 196, rfl⟩
abbrev main_c_61 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_c_62 : Ref sig .tc := ⟨.hbm, 203, rfl⟩
abbrev main_v139 : Ref sig .tc := ⟨.hbm, 204, rfl⟩
abbrev main_v140 : Ref sig .tc := ⟨.hbm, 205, rfl⟩
abbrev main_c_63 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_c_64 : Ref sig .tc := ⟨.hbm, 212, rfl⟩
abbrev main_v146 : Ref sig .tc := ⟨.hbm, 213, rfl⟩
abbrev main_v147 : Ref sig .tc := ⟨.hbm, 214, rfl⟩
abbrev main_c_65 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_c_66 : Ref sig .tc := ⟨.hbm, 221, rfl⟩
abbrev main_v153 : Ref sig .tc := ⟨.hbm, 222, rfl⟩
abbrev main_v154 : Ref sig .tc := ⟨.hbm, 223, rfl⟩
abbrev main_c_67 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_c_68 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_c_69 : Ref sig .tc := ⟨.hbm, 236, rfl⟩
abbrev main_v165 : Ref sig .tc := ⟨.hbm, 237, rfl⟩
abbrev main_v166 : Ref sig .tc := ⟨.hbm, 238, rfl⟩
abbrev main_c_70 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_c_71 : Ref sig .tc := ⟨.hbm, 245, rfl⟩
abbrev main_v172 : Ref sig .tc := ⟨.hbm, 246, rfl⟩
abbrev main_v173 : Ref sig .tc := ⟨.hbm, 247, rfl⟩
abbrev main_c_72 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_c_73 : Ref sig .tc := ⟨.hbm, 254, rfl⟩
abbrev main_v179 : Ref sig .tc := ⟨.hbm, 255, rfl⟩
abbrev main_v180 : Ref sig .tc := ⟨.hbm, 256, rfl⟩
abbrev main_c_74 : Ref sig .tc := ⟨.hbm, 257, rfl⟩
abbrev main_v181 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_c_75 : Ref sig .tc := ⟨.hbm, 263, rfl⟩
abbrev main_v186 : Ref sig .tc := ⟨.hbm, 264, rfl⟩
abbrev main_v187 : Ref sig .tc := ⟨.hbm, 265, rfl⟩
abbrev main_c_76 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_c_77 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_c_78 : Ref sig .tc := ⟨.hbm, 278, rfl⟩
abbrev main_v198 : Ref sig .tc := ⟨.hbm, 279, rfl⟩
abbrev main_v199 : Ref sig .tc := ⟨.hbm, 280, rfl⟩
abbrev main_c_79 : Ref sig .tc := ⟨.hbm, 281, rfl⟩
abbrev main_v200 : Ref sig .tc := ⟨.hbm, 282, rfl⟩
abbrev main_v201 : Ref sig .tc := ⟨.hbm, 283, rfl⟩
abbrev main_v202 : Ref sig .tc := ⟨.hbm, 284, rfl⟩
abbrev main_v203 : Ref sig .tc := ⟨.hbm, 285, rfl⟩
abbrev main_v204 : Ref sig .tc := ⟨.hbm, 286, rfl⟩
abbrev main_c_80 : Ref sig .tc := ⟨.hbm, 287, rfl⟩
abbrev main_v205 : Ref sig .tc := ⟨.hbm, 288, rfl⟩
abbrev main_v206 : Ref sig .tc := ⟨.hbm, 289, rfl⟩
abbrev main_c_81 : Ref sig .tc := ⟨.hbm, 290, rfl⟩
abbrev main_v207 : Ref sig .tc := ⟨.hbm, 291, rfl⟩
abbrev main_v208 : Ref sig .tc := ⟨.hbm, 292, rfl⟩
abbrev main_v209 : Ref sig .tc := ⟨.hbm, 293, rfl⟩
abbrev main_v210 : Ref sig .tc := ⟨.hbm, 294, rfl⟩
abbrev main_v211 : Ref sig .tc := ⟨.hbm, 295, rfl⟩
abbrev main_c_82 : Ref sig .tc := ⟨.hbm, 296, rfl⟩
abbrev main_v212 : Ref sig .tc := ⟨.hbm, 297, rfl⟩
abbrev main_v213 : Ref sig .tc := ⟨.hbm, 298, rfl⟩
abbrev main_c_83 : Ref sig .tc := ⟨.hbm, 299, rfl⟩
abbrev main_v214 : Ref sig .tc := ⟨.hbm, 300, rfl⟩
abbrev main_v215 : Ref sig .tc := ⟨.hbm, 301, rfl⟩
abbrev main_v216 : Ref sig .tc := ⟨.hbm, 302, rfl⟩
abbrev main_v217 : Ref sig .tc := ⟨.hbm, 303, rfl⟩
abbrev main_v218 : Ref sig .tc := ⟨.hbm, 304, rfl⟩
abbrev main_c_84 : Ref sig .tc := ⟨.hbm, 305, rfl⟩
abbrev main_v219 : Ref sig .tc := ⟨.hbm, 306, rfl⟩
abbrev main_v220 : Ref sig .tc := ⟨.hbm, 307, rfl⟩
abbrev main_c_85 : Ref sig .tc := ⟨.hbm, 308, rfl⟩
abbrev main_v221 : Ref sig .tc := ⟨.hbm, 309, rfl⟩
abbrev main_v222 : Ref sig .tc := ⟨.hbm, 310, rfl⟩
abbrev main_v223 : Ref sig .tc := ⟨.hbm, 311, rfl⟩
abbrev main_v224 : Ref sig .tc := ⟨.hbm, 312, rfl⟩
abbrev main_v225 : Ref sig .tc := ⟨.hbm, 313, rfl⟩
abbrev main_v226 : Ref sig .tc := ⟨.hbm, 314, rfl⟩
abbrev main_c_86 : Ref sig .tc := ⟨.hbm, 315, rfl⟩
abbrev main_v227 : Ref sig .tc := ⟨.hbm, 316, rfl⟩
abbrev main_v228 : Ref sig .tc := ⟨.hbm, 317, rfl⟩
abbrev main_v229 : Ref sig .tc := ⟨.hbm, 318, rfl⟩
abbrev main_v230 : Ref sig .tc := ⟨.hbm, 319, rfl⟩
abbrev main_c_87 : Ref sig .tc := ⟨.hbm, 320, rfl⟩
abbrev main_v231 : Ref sig .tc := ⟨.hbm, 321, rfl⟩
abbrev main_v232 : Ref sig .tc := ⟨.hbm, 322, rfl⟩
abbrev main_c_88 : Ref sig .tc := ⟨.hbm, 323, rfl⟩
abbrev main_v233 : Ref sig .tc := ⟨.hbm, 324, rfl⟩
abbrev main_v234 : Ref sig .tc := ⟨.hbm, 325, rfl⟩
abbrev main_v235 : Ref sig .tc := ⟨.hbm, 326, rfl⟩
abbrev main_v236 : Ref sig .tc := ⟨.hbm, 327, rfl⟩
abbrev main_v237 : Ref sig .tc := ⟨.hbm, 328, rfl⟩
abbrev main_c_89 : Ref sig .tc := ⟨.hbm, 329, rfl⟩
abbrev main_v238 : Ref sig .tc := ⟨.hbm, 330, rfl⟩
abbrev main_v239 : Ref sig .tc := ⟨.hbm, 331, rfl⟩
abbrev main_c_90 : Ref sig .tc := ⟨.hbm, 332, rfl⟩
abbrev main_v240 : Ref sig .tc := ⟨.hbm, 333, rfl⟩
abbrev main_v241 : Ref sig .tc := ⟨.hbm, 334, rfl⟩
abbrev main_v242 : Ref sig .tc := ⟨.hbm, 335, rfl⟩
abbrev main_v243 : Ref sig .tc := ⟨.hbm, 336, rfl⟩
abbrev main_v244 : Ref sig .tc := ⟨.hbm, 337, rfl⟩
abbrev main_c_91 : Ref sig .tc := ⟨.hbm, 338, rfl⟩
abbrev main_v245 : Ref sig .tc := ⟨.hbm, 339, rfl⟩
abbrev main_v246 : Ref sig .tc := ⟨.hbm, 340, rfl⟩
abbrev main_c_92 : Ref sig .tc := ⟨.hbm, 341, rfl⟩
abbrev main_v247 : Ref sig .tc := ⟨.hbm, 342, rfl⟩
abbrev main_v248 : Ref sig .tc := ⟨.hbm, 343, rfl⟩
abbrev main_v249 : Ref sig .tc := ⟨.hbm, 344, rfl⟩
abbrev main_v250 : Ref sig .tc := ⟨.hbm, 345, rfl⟩
abbrev main_v251 : Ref sig .tc := ⟨.hbm, 346, rfl⟩
abbrev main_c_93 : Ref sig .tc := ⟨.hbm, 347, rfl⟩
abbrev main_v252 : Ref sig .tc := ⟨.hbm, 348, rfl⟩
abbrev main_v253 : Ref sig .tc := ⟨.hbm, 349, rfl⟩
abbrev main_c_94 : Ref sig .tc := ⟨.hbm, 350, rfl⟩
abbrev main_v254 : Ref sig .tc := ⟨.hbm, 351, rfl⟩
abbrev main_v255 : Ref sig .tc := ⟨.hbm, 352, rfl⟩
abbrev main_v256 : Ref sig .tc := ⟨.hbm, 353, rfl⟩
abbrev main_v257 : Ref sig .tc := ⟨.hbm, 354, rfl⟩
abbrev main_v258 : Ref sig .tc := ⟨.hbm, 355, rfl⟩
abbrev main_v259 : Ref sig .tc := ⟨.hbm, 356, rfl⟩
abbrev main_c_95 : Ref sig .tc := ⟨.hbm, 357, rfl⟩
abbrev main_v260 : Ref sig .tc := ⟨.hbm, 358, rfl⟩
abbrev main_v261 : Ref sig .tc := ⟨.hbm, 359, rfl⟩
abbrev main_v262 : Ref sig .tc := ⟨.hbm, 360, rfl⟩
abbrev main_v263 : Ref sig .tc := ⟨.hbm, 361, rfl⟩
abbrev main_c_96 : Ref sig .tc := ⟨.hbm, 362, rfl⟩
abbrev main_v264 : Ref sig .tc := ⟨.hbm, 363, rfl⟩
abbrev main_v265 : Ref sig .tc := ⟨.hbm, 364, rfl⟩
abbrev main_c_97 : Ref sig .tc := ⟨.hbm, 365, rfl⟩
abbrev main_v266 : Ref sig .tc := ⟨.hbm, 366, rfl⟩
abbrev main_v267 : Ref sig .tc := ⟨.hbm, 367, rfl⟩
abbrev main_v268 : Ref sig .tc := ⟨.hbm, 368, rfl⟩
abbrev main_v269 : Ref sig .tc := ⟨.hbm, 369, rfl⟩
abbrev main_v270 : Ref sig .tc := ⟨.hbm, 370, rfl⟩
abbrev main_c_98 : Ref sig .tc := ⟨.hbm, 371, rfl⟩
abbrev main_v271 : Ref sig .tc := ⟨.hbm, 372, rfl⟩
abbrev main_v272 : Ref sig .tc := ⟨.hbm, 373, rfl⟩
abbrev main_c_99 : Ref sig .tc := ⟨.hbm, 374, rfl⟩
abbrev main_v273 : Ref sig .tc := ⟨.hbm, 375, rfl⟩
abbrev main_v274 : Ref sig .tc := ⟨.hbm, 376, rfl⟩
abbrev main_v275 : Ref sig .tc := ⟨.hbm, 377, rfl⟩
abbrev main_v276 : Ref sig .tc := ⟨.hbm, 378, rfl⟩
abbrev main_v277 : Ref sig .tc := ⟨.hbm, 379, rfl⟩
abbrev main_c_100 : Ref sig .tc := ⟨.hbm, 380, rfl⟩
abbrev main_v278 : Ref sig .tc := ⟨.hbm, 381, rfl⟩
abbrev main_v279 : Ref sig .tc := ⟨.hbm, 382, rfl⟩
abbrev main_c_101 : Ref sig .tc := ⟨.hbm, 383, rfl⟩
abbrev main_v280 : Ref sig .tc := ⟨.hbm, 384, rfl⟩
abbrev main_v281 : Ref sig .tc := ⟨.hbm, 385, rfl⟩
abbrev main_v282 : Ref sig .tc := ⟨.hbm, 386, rfl⟩
abbrev main_v283 : Ref sig .tc := ⟨.hbm, 387, rfl⟩
abbrev main_v284 : Ref sig .tc := ⟨.hbm, 388, rfl⟩
abbrev main_c_102 : Ref sig .tc := ⟨.hbm, 389, rfl⟩
abbrev main_v285 : Ref sig .tc := ⟨.hbm, 390, rfl⟩
abbrev main_v286 : Ref sig .tc := ⟨.hbm, 391, rfl⟩
abbrev main_c_103 : Ref sig .tc := ⟨.hbm, 392, rfl⟩
abbrev main_v287 : Ref sig .tc := ⟨.hbm, 393, rfl⟩
abbrev main_v288 : Ref sig .tc := ⟨.hbm, 394, rfl⟩
abbrev main_v289 : Ref sig .tc := ⟨.hbm, 395, rfl⟩
abbrev main_v290 : Ref sig .tc := ⟨.hbm, 396, rfl⟩
abbrev main_v291 : Ref sig .tc := ⟨.hbm, 397, rfl⟩
abbrev main_v292 : Ref sig .tc := ⟨.hbm, 398, rfl⟩
abbrev main_c_104 : Ref sig .tc := ⟨.hbm, 399, rfl⟩
abbrev main_v293 : Ref sig .tc := ⟨.hbm, 400, rfl⟩
abbrev main_v294 : Ref sig .tc := ⟨.hbm, 401, rfl⟩
abbrev main_v295 : Ref sig .tc := ⟨.hbm, 402, rfl⟩
abbrev main_v296 : Ref sig .tc := ⟨.hbm, 403, rfl⟩
abbrev main_c_105 : Ref sig .tc := ⟨.hbm, 404, rfl⟩
abbrev main_v297 : Ref sig .tc := ⟨.hbm, 405, rfl⟩
abbrev main_v298 : Ref sig .tc := ⟨.hbm, 406, rfl⟩
abbrev main_c_106 : Ref sig .tc := ⟨.hbm, 407, rfl⟩
abbrev main_v299 : Ref sig .tc := ⟨.hbm, 408, rfl⟩
abbrev main_v300 : Ref sig .tc := ⟨.hbm, 409, rfl⟩
abbrev main_v301 : Ref sig .tc := ⟨.hbm, 410, rfl⟩
abbrev main_cst : Ref sig .tc := ⟨.hbm, 411, rfl⟩
abbrev main_v302 : Ref sig .tc := ⟨.hbm, 412, rfl⟩
abbrev main_v303 : Ref sig .tc := ⟨.hbm, 413, rfl⟩
abbrev main_cst_107 : Ref sig .tc := ⟨.hbm, 414, rfl⟩
abbrev main_v304 : Ref sig .tc := ⟨.hbm, 415, rfl⟩
abbrev main_v305 : Ref sig .tc := ⟨.hbm, 416, rfl⟩
abbrev main_cst_108 : Ref sig .tc := ⟨.hbm, 417, rfl⟩
abbrev main_v306 : Ref sig .tc := ⟨.hbm, 418, rfl⟩
abbrev main_v307 : Ref sig .tc := ⟨.hbm, 419, rfl⟩
abbrev main_cst_109 : Ref sig .tc := ⟨.hbm, 420, rfl⟩
abbrev main_v308 : Ref sig .tc := ⟨.hbm, 421, rfl⟩
abbrev main_v309 : Ref sig .tc := ⟨.hbm, 422, rfl⟩
abbrev main_v310 : Ref sig .tc := ⟨.hbm, 423, rfl⟩
abbrev main_v311 : Ref sig .tc := ⟨.hbm, 424, rfl⟩
abbrev main_v312 : Ref sig .tc := ⟨.hbm, 425, rfl⟩
abbrev main_v313 : Ref sig .tc := ⟨.hbm, 426, rfl⟩
abbrev main_v314 : Ref sig .tc := ⟨.hbm, 427, rfl⟩
abbrev main_cst_110 : Ref sig .tc := ⟨.hbm, 428, rfl⟩
abbrev main_v315 : Ref sig .tc := ⟨.hbm, 429, rfl⟩
abbrev main_v316 : Ref sig .tc := ⟨.hbm, 430, rfl⟩
abbrev main_v317 : Ref sig .tc := ⟨.hbm, 431, rfl⟩
abbrev main_v318 : Ref sig .tc := ⟨.hbm, 432, rfl⟩
abbrev main_v319 : Ref sig .tc := ⟨.hbm, 433, rfl⟩
abbrev main_c_111 : Ref sig .tc := ⟨.hbm, 434, rfl⟩
abbrev main_call0_v0 : Ref sig .tc := ⟨.hbm, 435, rfl⟩
abbrev main_call0_v1 : Ref sig .tc := ⟨.hbm, 436, rfl⟩
abbrev main_v320 : Ref sig .tc := ⟨.hbm, 437, rfl⟩
abbrev main_c_112 : Ref sig .tc := ⟨.hbm, 438, rfl⟩
abbrev main_v321 : Ref sig .tc := ⟨.hbm, 439, rfl⟩

abbrev nD : Nat := 1
abbrev τ : Topo := Topo.v7x

variable {F : FTy → Type} [FloatOps F]
-- ==== Proof.Same.lean ====
module

public import proofs.«01_k».proof.Defs

@[expose] public section

/-! # The kernel and its reading at the ideal instance are the same program

No rewrite was applied between the two, so at the same float operations their texts denote the same thing. -/

noncomputable section

namespace Cert.Gumbel

open Idealize.ShloMosaic

variable [Cert.Kernel.Facts] [Cert.KernelIdeal.Facts]

/-- The body table: the only label's body is the same function of the same arguments. -/
theorem body_table_eq : Cert.Kernel.defs₀ (F := Bits) = Cert.KernelIdeal.defs₀ (F := Bits) :=
  congrArg (Defs.onTc (nD := Cert.Kernel.nD) (τ := Cert.Kernel.τ) (sig := Cert.Kernel.sig) (Val := Elt Bits) (Λ := Cert.Kernel.Λ₀))
    (funext fun l => funext fun a => by
      match l, a with
      | ⟨0, _⟩, (t, s) => with_unfolding_all rfl
      | ⟨n + 1, h⟩, _ => exact absurd h (Nat.not_lt.2 (Nat.le_add_left _ _)))

/-- The two programs' bodies are the same. -/
theorem defs_eq : Cert.Kernel.defs (F := Bits) = Cert.KernelIdeal.defs (F := Bits) :=
  congrArg (Pipeline.defs Cert.Kernel.pcfgs) body_table_eq

/-- The two programs' host code is the same. -/
theorem main_eq : Cert.Kernel.main (F := Bits) = Cert.KernelIdeal.main (F := Bits) := by
  with_unfolding_all rfl

end Cert.Gumbel

end
-- ==== Proof.Trip.lean ====
module

public import proofs.«01_k».proof.Proof.Gen.KernelIdeal.Frame
public import proofs.«01_k».proof.Proof.Gen.KernelIdeal.Loops
public import Idealize.ShloMosaic.Lib.Pipeline.Value

@[expose] public section

/-! # One trip of the kernel's two loops, as a step on the two accumulators

The kernel keeps two arrays of 32 rows by 512 lanes between trips: the best score seen so far in each lane, and the
number of the tile it was seen in. This module names the step a trip makes on that pair and shows that the pieces
the generated trip writes are that step. -/

noncomputable section

namespace Cert.KernelIdeal.Gumbel

open Cert.KernelIdeal Cert.KernelIdeal.Gen
open Idealize.ShloMosaic Idealize.ShloMosaic.TcCoe Idealize.ShloMosaic.Tactic

variable {F : FTy → Type} [FloatOps F]

/-- The two accumulators: best score and tile of the best score, per row and lane. -/
abbrev Acc (F : FTy → Type) : Type := Vec F S32x512 .f32 × Vec F S32x512 .i32

/-- The offset zero, as a function. -/
theorem hz : (![0, 0] : Fin 2 → Nat) = fun _ => 0 := funext fun a => by fin_cases a <;> rfl

/-- `log(-log u)` at tile `k` of block `a0`: the cipher's twenty rounds and the transform of its words. -/
def noise (a0 : BitVec 32) (base : Vec F S32x512 .i32) (k : Fin k0_t1_loop.trips) : FVec F S32x512 .f32 :=
  have x := k0_pay21 (F := F) a0 base 0#32 1#32 k
  have y := k0_pay22 (F := F) a0 base 0#32 1#32 k
  have x' := k0_pay34 x y
  have y' := k0_pay35 x y
  k0_pay48 (k0_pay46 x' y') (k0_pay47 x' y') 13#32

/-- The step of trip `k` of a block that lies inside the array, on the logits `tile`. -/
def stepWhole (i : grid0.Coords) (base : Vec F S32x512 .i32) (k : Fin k0_t1_loop.trips)
    (tile : Vec F S32x512 .f32) (s : Acc F) : Acc F :=
  have g := noise (F := F) (BitVec.ofNat 32 (i 0).val) base k
  have zero : F .f32 := Scalar.ofBits .f32 0x00000000#32
  (k0_pay5 g zero tile s.1 s.1, k0_pay6 i (Scf.iv 0#32 1#32 k) g zero tile s.1 s.2)

/-- The first column of tile `k` of block `i`, as the kernel computes it. -/
def firstCol (i : grid0.Coords) (k : Fin k0_t2_loop.trips) : BitVec 32 :=
  Scalar.addi (Scalar.muli (BitVec.ofNat 32 (i 0).val) 32768#32) (Scalar.muli (Scf.iv 0#32 1#32 k) 512#32)

/-- The step of trip `k` of the block that runs past the array: lanes whose column is past the end keep what they had. -/
def stepEdge (i : grid0.Coords) (base lane : Vec F S32x512 .i32) (k : Fin k0_t2_loop.trips)
    (tile : Vec F S32x512 .f32) (s : Acc F) : Acc F :=
  have g := noise (F := F) (BitVec.ofNat 32 (i 0).val) base k
  have zero : F .f32 := Scalar.ofBits .f32 0x00000000#32
  (k0_pay9 lane (firstCol i k) g zero tile s.1 s.1,
    k0_pay10 i lane (Scf.iv 0#32 1#32 k) (firstCol i k) g zero tile s.1 s.2)

/-- The accumulators after the first `n` trips of a block. -/
def fold {N : ℕ} (step : Fin N → Acc F → Acc F) (s : Acc F) : ℕ → Acc F
  | 0 => s
  | n + 1 => if h : n < N then step ⟨n, h⟩ (fold step s n) else fold step s n

/-- The part of a block trip `k` loads. -/
abbrev tileAt (X : Vec F S32x32768 .f32) (off : Fin 2 → ℕ) (h : ∀ a, off a + S32x512.size a ≤ S32x32768.size a) :
    Vec F S32x512 .f32 :=
  View.ld X (Rect.unit (s := S32x32768) off S32x512.size h)

section

variable (c : Dev nD) (i : grid0.Coords)
  (arg1 : Memref sig .tc .vmem S32x32768 .f32) (harg1 : arg1.IsWhole)
  (arg2 : Memref sig .tc .vmem S32x512 .i32) (harg2 : arg2.IsWhole)
  (arg3 : Memref sig .tc .vmem S32x512 .i32) (harg3 : arg3.IsWhole)
  (arg4 : Memref sig .tc .vmem S32x1 .i32) (harg4 : arg4.IsWhole)
  (arg5 : Memref sig .tc .vmem S32x512 .f32) (harg5 : arg5.IsWhole)
  (arg6 : Memref sig .tc .vmem S32x512 .i32) (harg6 : arg6.IsWhole)
  (X : Vec F S32x32768 .f32) (base lane : Vec F S32x512 .i32)

/-- A whole accumulator stored over: what a list of one whole piece leaves is the piece's payload. -/
theorem writes_one {e : EltTy} {a : Memref sig .tc .vmem S32x512 e} (ha : a.IsWhole) (f : a.view.ty.Contents (Elt F))
    (inb : ∀ d, (![0, 0] : Fin 2 → ℕ) d + S32x512.size d ≤ S32x512.size d) (w : Vec F S32x512 e) :
    a.view.writes (Elt F) f [⟨Rect.unit (s := S32x512) ![0, 0] S32x512.size inb, w⟩] = ha.unread w := by
  apply ha.eq_unread
  rw [View.read_writes_eq_canon _ _ _ (fun y => View.cover_of_tiledL _ S32x512.size (by sl_kernel_rfl) y),
    View.canon_unit_zero hz]

/-- The pieces of one trip of the unmasked loop, applied to the accumulators `s`, leave `stepWhole`'s. -/
theorem trip_whole (h2 : k0_cond2 i = 1#1) (k : Fin k0_t1_loop.trips) (s : Acc F) :
    arg5.view.writes (Elt F) (harg5.unread s.1)
        (tripL_k0_t1 (F := F) Variants.none c none i arg1 harg1 arg2 harg2 arg3 harg3 arg4 harg4 arg5 harg5 arg6 harg6
          (BitVec.ofNat 32 (i 0).val) base h2 (harg1.unread X) k (harg5.unread s.1) (harg6.unread s.2)).1
      = harg5.unread (stepWhole i base k (tileAt X (k0_off1 k) (k0_off1_inb i k h2)) s).1
    ∧ arg6.view.writes (Elt F) (harg6.unread s.2)
        (tripL_k0_t1 (F := F) Variants.none c none i arg1 harg1 arg2 harg2 arg3 harg3 arg4 harg4 arg5 harg5 arg6 harg6
          (BitVec.ofNat 32 (i 0).val) base h2 (harg1.unread X) k (harg5.unread s.1) (harg6.unread s.2)).2
      = harg6.unread (stepWhole i base k (tileAt X (k0_off1 k) (k0_off1_inb i k h2)) s).2 := by
  unfold tripL_k0_t1 trip_k0_t1
  dsimp only
  refine ⟨(writes_one harg5 _ _ _).trans (congrArg harg5.unread ?_), (writes_one harg6 _ _ _).trans (congrArg harg6.unread ?_)⟩
  all_goals
    simp only [View.readAt_eq_ld, harg1.read_unread, harg5.read_unread, harg6.read_unread, View.ld_unit_zero (S := S32x512) hz]
    rfl

/-- The pieces of one trip of the masked loop, applied to the accumulators `s`, leave `stepEdge`'s. -/
theorem trip_edge (h3 : k0_cond3 i = 1#1) (k : Fin k0_t2_loop.trips) (s : Acc F) :
    arg5.view.writes (Elt F) (harg5.unread s.1)
        (tripL_k0_t2 (F := F) Variants.none c none i arg1 harg1 arg2 harg2 arg3 harg3 arg4 harg4 arg5 harg5 arg6 harg6
          (BitVec.ofNat 32 (i 0).val) base lane h3 (harg1.unread X) k (harg5.unread s.1) (harg6.unread s.2)).1
      = harg5.unread (stepEdge i base lane k (tileAt X (k0_off2 k) (k0_off2_inb i k h3)) s).1
    ∧ arg6.view.writes (Elt F) (harg6.unread s.2)
        (tripL_k0_t2 (F := F) Variants.none c none i arg1 harg1 arg2 harg2 arg3 harg3 arg4 harg4 arg5 harg5 arg6 harg6
          (BitVec.ofNat 32 (i 0).val) base lane h3 (harg1.unread X) k (harg5.unread s.1) (harg6.unread s.2)).2
      = harg6.unread (stepEdge i base lane k (tileAt X (k0_off2 k) (k0_off2_inb i k h3)) s).2 := by
  unfold tripL_k0_t2 trip_k0_t2
  dsimp only
  refine ⟨(writes_one harg5 _ _ _).trans (congrArg harg5.unread ?_), (writes_one harg6 _ _ _).trans (congrArg harg6.unread ?_)⟩
  all_goals
    simp only [View.readAt_eq_ld, harg1.read_unread, harg5.read_unread, harg6.read_unread, View.ld_unit_zero (S := S32x512) hz]
    rfl

/-- What the unmasked loop's first `n` trips leave in the accumulators. -/
theorem loop_whole (h2 : k0_cond2 i = 1#1) (s : Acc F) : ∀ n ≤ k0_t1_loop.trips,
    arg5.view.writes (Elt F) (harg5.unread s.1)
        (pb_k0_t1 (F := F) Variants.none c none i arg1 harg1 arg2 harg2 arg3 harg3 arg4 harg4 arg5 harg5 arg6 harg6
          (BitVec.ofNat 32 (i 0).val) base h2 (harg1.unread X) (harg5.unread s.1) (harg6.unread s.2) n).1
      = harg5.unread (fold (fun k => stepWhole i base k (tileAt X (k0_off1 k) (k0_off1_inb i k h2))) s n).1
    ∧ arg6.view.writes (Elt F) (harg6.unread s.2)
        (pb_k0_t1 (F := F) Variants.none c none i arg1 harg1 arg2 harg2 arg3 harg3 arg4 harg4 arg5 harg5 arg6 harg6
          (BitVec.ofNat 32 (i 0).val) base h2 (harg1.unread X) (harg5.unread s.1) (harg6.unread s.2) n).2
      = harg6.unread (fold (fun k => stepWhole i base k (tileAt X (k0_off1 k) (k0_off1_inb i k h2))) s n).2
  | 0, _ => ⟨rfl, rfl⟩
  | n + 1, hn => by
    obtain ⟨e5, e6⟩ := loop_whole h2 s n (by omega)
    have h : n < k0_t1_loop.trips := hn
    rw [pb_k0_t1_succ (F := F) Variants.none c none i arg1 harg1 arg2 harg2 arg3 harg3 arg4 harg4 arg5 harg5 arg6 harg6
      (BitVec.ofNat 32 (i 0).val) base h2 (harg1.unread X) (harg5.unread s.1) (harg6.unread s.2) ⟨n, h⟩]
    dsimp only
    rw [View.writes_append, View.writes_append, e5, e6, fold, dif_pos h]
    exact trip_whole c i arg1 harg1 arg2 harg2 arg3 harg3 arg4 harg4 arg5 harg5 arg6 harg6 X base h2 ⟨n, h⟩ _

/-- What the masked loop's first `n` trips leave in the accumulators. -/
theorem loop_edge (h3 : k0_cond3 i = 1#1) (s : Acc F) : ∀ n ≤ k0_t2_loop.trips,
    arg5.view.writes (Elt F) (harg5.unread s.1)
        (pb_k0_t2 (F := F) Variants.none c none i arg1 harg1 arg2 harg2 arg3 harg3 arg4 harg4 arg5 harg5 arg6 harg6
          (BitVec.ofNat 32 (i 0).val) base lane h3 (harg1.unread X) (harg5.unread s.1) (harg6.unread s.2) n).1
      = harg5.unread (fold (fun k => stepEdge i base lane k (tileAt X (k0_off2 k) (k0_off2_inb i k h3))) s n).1
    ∧ arg6.view.writes (Elt F) (harg6.unread s.2)
        (pb_k0_t2 (F := F) Variants.none c none i arg1 harg1 arg2 harg2 arg3 harg3 arg4 harg4 arg5 harg5 arg6 harg6
          (BitVec.ofNat 32 (i 0).val) base lane h3 (harg1.unread X) (harg5.unread s.1) (harg6.unread s.2) n).2
      = harg6.unread (fold (fun k => stepEdge i base lane k (tileAt X (k0_off2 k) (k0_off2_inb i k h3))) s n).2
  | 0, _ => ⟨rfl, rfl⟩
  | n + 1, hn => by
    obtain ⟨e5, e6⟩ := loop_edge h3 s n (by omega)
    have h : n < k0_t2_loop.trips := hn
    rw [pb_k0_t2_succ (F := F) Variants.none c none i arg1 harg1 arg2 harg2 arg3 harg3 arg4 harg4 arg5 harg5 arg6 harg6
      (BitVec.ofNat 32 (i 0).val) base lane h3 (harg1.unread X) (harg5.unread s.1) (harg6.unread s.2) ⟨n, h⟩]
    dsimp only
    rw [View.writes_append, View.writes_append, e5, e6, fold, dif_pos h]
    exact trip_edge c i arg1 harg1 arg2 harg2 arg3 harg3 arg4 harg4 arg5 harg5 arg6 harg6 X base lane h3 ⟨n, h⟩ _

end

end Cert.KernelIdeal.Gumbel
-- ==== Proof.Body.lean ====
module

public import proofs.«01_k».proof.Proof.Trip

@[expose] public section

/-! # The kernel's body at one point of the grid

Three cases: the first block sets the accumulators and runs its trips, a middle block runs its trips, and the last
block runs the masked trips and stores the result. -/

noncomputable section

namespace Cert.KernelIdeal.Gumbel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body resets the accumulators at this block. -/
abbrev isFirst (i : grid0.Coords) : Prop := (Scalar.cmpi .ne (Scalar.extui (Scalar.cmpi .eq (BitVec.ofNat 32 (i 0).val) 0#32)) 0#32) = 1#1

/-- The accumulators after a block inside the array. -/
def afterWhole (i : grid0.Coords) (h2 : k0_cond2 i = 1#1) (X : Vec F S32x32768 .f32) (base : Vec F S32x512 .i32) (s : Acc F) : Acc F :=
  fold (fun k => stepWhole i base k (tileAt X (k0_off1 k) (k0_off1_inb i k h2))) s k0_t1_loop.trips

/-- The accumulators after the last block. -/
def afterEdge (i : grid0.Coords) (h3 : k0_cond3 i = 1#1) (X : Vec F S32x32768 .f32) (base lane : Vec F S32x512 .i32) (s : Acc F) : Acc F :=
  fold (fun k => stepEdge i base lane k (tileAt X (k0_off2 k) (k0_off2_inb i k h3))) s k0_t2_loop.trips

/-- The accumulators as the first block sets them: no score yet. -/
def start : Acc F := (k0_pay1, k0_pay2)

variable (c : Dev nD) (i : grid0.Coords)
  (arg1 : Memref sig .tc .vmem S32x32768 .f32) (harg1 : arg1.IsWhole)
  (arg2 : Memref sig .tc .vmem S32x512 .i32) (harg2 : arg2.IsWhole)
  (arg3 : Memref sig .tc .vmem S32x512 .i32) (harg3 : arg3.IsWhole)
  (arg4 : Memref sig .tc .vmem S32x1 .i32) (harg4 : arg4.IsWhole)
  (arg5 : Memref sig .tc .vmem S32x512 .f32) (harg5 : arg5.IsWhole)
  (arg6 : Memref sig .tc .vmem S32x512 .i32) (harg6 : arg6.IsWhole)
  (X : Vec F S32x32768 .f32) (base lane : Vec F S32x512 .i32)

/-- A load of a whole array of 32 rows by 512 lanes reads its contents. -/
theorem load_whole {e : EltTy} {a : Memref sig .tc .vmem S32x512 e} (ha : a.IsWhole) (x : Vec F S32x512 e)
    (inb : ∀ d, (![0, 0] : Fin 2 → ℕ) d + S32x512.size d ≤ S32x512.size d) :
    View.readAt (Elt F) a.view (Rect.unit (s := S32x512) ![0, 0] S32x512.size inb).toLoadRect (ha.unread x) = x := by
  rw [View.readAt_eq_ld, ha.read_unread, View.ld_unit_zero (S := S32x512) hz]

/-- What the unmasked loop leaves, read back. -/
theorem read_whole (h2 : k0_cond2 i = 1#1) (s : Acc F) :
    View.read (Elt F) arg5.view (arg5.view.writes (Elt F) (harg5.unread s.1)
        (pb_k0_t1 (F := F) Variants.none c none i arg1 harg1 arg2 harg2 arg3 harg3 arg4 harg4 arg5 harg5 arg6 harg6
          (BitVec.ofNat 32 (i 0).val) (View.readAt (Elt F) arg2.view (Rect.unit (s := S32x512) ![0, 0] S32x512.size inb_S32x512_S32x512_0_0).toLoadRect (harg2.unread base))
          h2 (harg1.unread X) (harg5.unread s.1) (harg6.unread s.2) k0_t1_loop.trips).1) = (afterWhole i h2 X base s).1
    ∧ View.read (Elt F) arg6.view (arg6.view.writes (Elt F) (harg6.unread s.2)
        (pb_k0_t1 (F := F) Variants.none c none i arg1 harg1 arg2 harg2 arg3 harg3 arg4 harg4 arg5 harg5 arg6 harg6
          (BitVec.ofNat 32 (i 0).val) (View.readAt (Elt F) arg2.view (Rect.unit (s := S32x512) ![0, 0] S32x512.size inb_S32x512_S32x512_0_0).toLoadRect (harg2.unread base))
          h2 (harg1.unread X) (harg5.unread s.1) (harg6.unread s.2) k0_t1_loop.trips).2) = (afterWhole i h2 X base s).2 := by
  rw [load_whole harg2]
  obtain ⟨e5, e6⟩ := loop_whole c i arg1 harg1 arg2 harg2 arg3 harg3 arg4 harg4 arg5 harg5 arg6 harg6 X base h2 s _ le_rfl
  rw [e5, e6, harg5.read_unread, harg6.read_unread]
  exact ⟨rfl, rfl⟩

/-- The same where the accumulators were written by the body itself before the loop. -/
theorem read_first (h2 : k0_cond2 i = 1#1) (s : Acc F) (f5 : arg5.view.ty.Contents (Elt F)) (f6 : arg6.view.ty.Contents (Elt F))
    (L5 : List (View.Piece (Elt F) S32x512 .f32)) (L6 : List (View.Piece (Elt F) S32x512 .i32))
    (e5 : arg5.view.writes (Elt F) f5 L5 = harg5.unread s.1) (e6 : arg6.view.writes (Elt F) f6 L6 = harg6.unread s.2) :
    View.read (Elt F) arg5.view (arg5.view.writes (Elt F) f5
        ((pb_k0_t1 (F := F) Variants.none c none i arg1 harg1 arg2 harg2 arg3 harg3 arg4 harg4 arg5 harg5 arg6 harg6
          (BitVec.ofNat 32 (i 0).val) (View.readAt (Elt F) arg2.view (Rect.unit (s := S32x512) ![0, 0] S32x512.size inb_S32x512_S32x512_0_0).toLoadRect (harg2.unread base))
          h2 (harg1.unread X) (arg5.view.writes (Elt F) f5 L5) (arg6.view.writes (Elt F) f6 L6) k0_t1_loop.trips).1 ++ L5)) = (afterWhole i h2 X base s).1
    ∧ View.read (Elt F) arg6.view (arg6.view.writes (Elt F) f6
        ((pb_k0_t1 (F := F) Variants.none c none i arg1 harg1 arg2 harg2 arg3 harg3 arg4 harg4 arg5 harg5 arg6 harg6
          (BitVec.ofNat 32 (i 0).val) (View.readAt (Elt F) arg2.view (Rect.unit (s := S32x512) ![0, 0] S32x512.size inb_S32x512_S32x512_0_0).toLoadRect (harg2.unread base))
          h2 (harg1.unread X) (arg5.view.writes (Elt F) f5 L5) (arg6.view.writes (Elt F) f6 L6) k0_t1_loop.trips).2 ++ L6)) = (afterWhole i h2 X base s).2 := by
  rw [View.writes_append, View.writes_append, e5, e6]
  exact read_whole c i arg1 harg1 arg2 harg2 arg3 harg3 arg4 harg4 arg5 harg5 arg6 harg6 X base h2 s

/-- What the masked loop leaves in the two accumulators' buffers. -/
theorem left_edge (h3 : k0_cond3 i = 1#1) (s : Acc F) :
    arg5.view.writes (Elt F) (harg5.unread s.1)
        (pb_k0_t2 (F := F) Variants.none c none i arg1 harg1 arg2 harg2 arg3 harg3 arg4 harg4 arg5 harg5 arg6 harg6
          (BitVec.ofNat 32 (i 0).val) (View.readAt (Elt F) arg2.view (Rect.unit (s := S32x512) ![0, 0] S32x512.size inb_S32x512_S32x512_0_0).toLoadRect (harg2.unread base))
          (View.readAt (Elt F) arg3.view (Rect.unit (s := S32x512) ![0, 0] S32x512.size inb_S32x512_S32x512_0_0).toLoadRect (harg3.unread lane))
          h3 (harg1.unread X) (harg5.unread s.1) (harg6.unread s.2) k0_t2_loop.trips).1 = harg5.unread (afterEdge i h3 X base lane s).1
    ∧ arg6.view.writes (Elt F) (harg6.unread s.2)
        (pb_k0_t2 (F := F) Variants.none c none i arg1 harg1 arg2 harg2 arg3 harg3 arg4 harg4 arg5 harg5 arg6 harg6
          (BitVec.ofNat 32 (i 0).val) (View.readAt (Elt F) arg2.view (Rect.unit (s := S32x512) ![0, 0] S32x512.size inb_S32x512_S32x512_0_0).toLoadRect (harg2.unread base))
          (View.readAt (Elt F) arg3.view (Rect.unit (s := S32x512) ![0, 0] S32x512.size inb_S32x512_S32x512_0_0).toLoadRect (harg3.unread lane))
          h3 (harg1.unread X) (harg5.unread s.1) (harg6.unread s.2) k0_t2_loop.trips).2 = harg6.unread (afterEdge i h3 X base lane s).2 := by
  rw [load_whole harg2, load_whole harg3]
  exact loop_edge c i arg1 harg1 arg2 harg2 arg3 harg3 arg4 harg4 arg5 harg5 arg6 harg6 X base lane h3 s _ le_rfl

/-- The result block: what the final reduction makes of the accumulators the masked loop leaves. -/
theorem read_last (h3 : k0_cond3 i = 1#1) (s : Acc F) (f : arg4.view.ty.Contents (Elt F)) :
    View.read (Elt F) arg4.view (arg4.view.writes (Elt F) f
        [⟨Rect.unit (s := S32x1) ![0, 0] S32x1.size inb_S32x1_S32x1_0_0,
          k0_pay11 (View.readAt (Elt F) arg3.view (Rect.unit (s := S32x512) ![0, 0] S32x512.size inb_S32x512_S32x512_0_0).toLoadRect (harg3.unread lane))
            (View.readAt (Elt F) arg5.view (Rect.unit (s := S32x512) ![0, 0] S32x512.size inb_S32x512_S32x512_0_0).toLoadRect
              (arg5.view.writes (Elt F) (harg5.unread s.1) (pb_k0_t2 (F := F) Variants.none c none i arg1 harg1 arg2 harg2 arg3 harg3 arg4 harg4 arg5 harg5 arg6 harg6
          (BitVec.ofNat 32 (i 0).val) (View.readAt (Elt F) arg2.view (Rect.unit (s := S32x512) ![0, 0] S32x512.size inb_S32x512_S32x512_0_0).toLoadRect (harg2.unread base))
          (View.readAt (Elt F) arg3.view (Rect.unit (s := S32x512) ![0, 0] S32x512.size inb_S32x512_S32x512_0_0).toLoadRect (harg3.unread lane))
          h3 (harg1.unread X) (harg5.unread s.1) (harg6.unread s.2) k0_t2_loop.trips).1))
            (View.readAt (Elt F) arg6.view (Rect.unit (s := S32x512) ![0, 0] S32x512.size inb_S32x512_S32x512_0_0).toLoadRect
              (arg6.view.writes (Elt F) (harg6.unread s.2) (pb_k0_t2 (F := F) Variants.none c none i arg1 harg1 arg2 harg2 arg3 harg3 arg4 harg4 arg5 harg5 arg6 harg6
          (BitVec.ofNat 32 (i 0).val) (View.readAt (Elt F) arg2.view (Rect.unit (s := S32x512) ![0, 0] S32x512.size inb_S32x512_S32x512_0_0).toLoadRect (harg2.unread base))
          (View.readAt (Elt F) arg3.view (Rect.unit (s := S32x512) ![0, 0] S32x512.size inb_S32x512_S32x512_0_0).toLoadRect (harg3.unread lane))
          h3 (harg1.unread X) (harg5.unread s.1) (harg6.unread s.2) k0_t2_loop.trips).2))⟩])
      = k0_pay11 lane (afterEdge i h3 X base lane s).1 (afterEdge i h3 X base lane s).2 := by
  obtain ⟨e5, e6⟩ := left_edge c i arg1 harg1 arg2 harg2 arg3 harg3 arg4 harg4 arg5 harg5 arg6 harg6 X base lane h3 s
  rw [e5, e6, load_whole harg3, load_whole harg5, load_whole harg6,
    View.read_writes_eq_canon _ _ _ (fun y => View.cover_of_tiledL _ S32x1.size (by sl_kernel_rfl) y), View.canon_unit_zero hz]

/-- A middle block: its trips on the accumulators it finds, everything else as it was. -/
theorem body_middle (h1 : ¬isFirst i) (h2 : k0_cond2 i = 1#1) (h3 : ¬k0_cond3 i = 1#1) (o : Vec F S32x1 .i32) (s : Acc F)
    (E : Set ℕ) (K : PUnit → sProp 𝕄) :
    iprop(owns (c : Thread nD τ) arg1 fullShare X ∗ owns (c : Thread nD τ) arg2 fullShare base ∗ owns (c : Thread nD τ) arg3 fullShare lane
        ∗ owns (c : Thread nD τ) arg4 fullShare o ∗ owns (c : Thread nD τ) arg5 fullShare s.1 ∗ owns (c : Thread nD τ) arg6 fullShare s.2
        ∗ (iprop(owns (c : Thread nD τ) arg1 fullShare X ∗ owns (c : Thread nD τ) arg2 fullShare base ∗ owns (c : Thread nD τ) arg3 fullShare lane
            ∗ owns (c : Thread nD τ) arg4 fullShare o ∗ owns (c : Thread nD τ) arg5 fullShare (afterWhole i h2 X base s).1
            ∗ owns (c : Thread nD τ) arg6 fullShare (afterWhole i h2 X base s).2) -∗ K ⟨⟩))
      ⊢ wp frame (wpE (defs₀ (F := F)) Variants.none c none) E
          (cc0__sample_kernel i arg1 harg1 arg2 harg2 arg3 harg3 arg4 harg4 arg5 harg5 arg6 harg6) K := by
  simp only [cc0__sample_kernel_eq_skeleton]; unfold cc0__sample_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg5.eq_unread hfs0; obtain rfl := harg6.eq_unread hfs1
  sl_exec (disch := first | sl_exact h1 | sl_exact h2 | sl_exact h3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact hf3
    iexact H3
  isplitl [HS0]
  · iexists _; isplitr
    swap; · iexact HS0
    ipureintro
    exact (read_whole c i arg1 harg1 arg2 harg2 arg3 harg3 arg4 harg4 arg5 harg5 arg6 harg6 X base h2 s).1
  iexists _; isplitr
  swap; · iexact HS1
  ipureintro
  exact (read_whole c i arg1 harg1 arg2 harg2 arg3 harg3 arg4 harg4 arg5 harg5 arg6 harg6 X base h2 s).2

/-- The first block: the accumulators set, then its trips. -/
theorem body_first (h1 : isFirst i) (h2 : k0_cond2 i = 1#1) (h3 : ¬k0_cond3 i = 1#1) (o : Vec F S32x1 .i32)
    (E : Set ℕ) (K : PUnit → sProp 𝕄) :
    iprop(owns (c : Thread nD τ) arg1 fullShare X ∗ owns (c : Thread nD τ) arg2 fullShare base ∗ owns (c : Thread nD τ) arg3 fullShare lane
        ∗ owns (c : Thread nD τ) arg4 fullShare o ∗ (∃ d, owns (c : Thread nD τ) arg5 fullShare d) ∗ (∃ d, owns (c : Thread nD τ) arg6 fullShare d)
        ∗ (iprop(owns (c : Thread nD τ) arg1 fullShare X ∗ owns (c : Thread nD τ) arg2 fullShare base ∗ owns (c : Thread nD τ) arg3 fullShare lane
            ∗ owns (c : Thread nD τ) arg4 fullShare o ∗ owns (c : Thread nD τ) arg5 fullShare (afterWhole i h2 X base start).1
            ∗ owns (c : Thread nD τ) arg6 fullShare (afterWhole i h2 X base start).2) -∗ K ⟨⟩))
      ⊢ wp frame (wpE (defs₀ (F := F)) Variants.none c none) E
          (cc0__sample_kernel i arg1 harg1 arg2 harg2 arg3 harg3 arg4 harg4 arg5 harg5 arg6 harg6) K := by
  simp only [cc0__sample_kernel_eq_skeleton]; unfold cc0__sample_kernel_skel
  unfold owns
  iintro ⟨⟨%f0, %hf0, H0⟩, ⟨%f1, %hf1, H1⟩, ⟨%f2, %hf2, H2⟩, ⟨%f3, %hf3, H3⟩, ⟨%d5, %fs0, %hfs0, HS0⟩, ⟨%d6, %fs1, %hfs1, HS1⟩, Hk⟩
  obtain rfl := harg1.eq_unread hf0; obtain rfl := harg2.eq_unread hf1; obtain rfl := harg3.eq_unread hf2
  sl_exec (disch := first | sl_exact h1 | sl_exact h2 | sl_exact h3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro; exact hf3
  isplitl [HS0]
  · iexists _; isplitr
    swap; · iexact HS0
    ipureintro; exact (read_first c i arg1 harg1 arg2 harg2 arg3 harg3 arg4 harg4 arg5 harg5 arg6 harg6 X base h2 start _ _ _ _ (writes_one harg5 _ _ _) (writes_one harg6 _ _ _)).1
  iexists _; isplitr
  swap; · iexact HS1
  ipureintro; exact (read_first c i arg1 harg1 arg2 harg2 arg3 harg3 arg4 harg4 arg5 harg5 arg6 harg6 X base h2 start _ _ _ _ (writes_one harg5 _ _ _) (writes_one harg6 _ _ _)).2

/-- The last block: its masked trips, and the result from the accumulators they leave. -/
theorem body_last (h1 : ¬isFirst i) (h2 : ¬k0_cond2 i = 1#1) (h3 : k0_cond3 i = 1#1) (s : Acc F)
    (E : Set ℕ) (K : PUnit → sProp 𝕄) :
    iprop(owns (c : Thread nD τ) arg1 fullShare X ∗ owns (c : Thread nD τ) arg2 fullShare base ∗ owns (c : Thread nD τ) arg3 fullShare lane
        ∗ (∃ d, owns (c : Thread nD τ) arg4 fullShare d) ∗ owns (c : Thread nD τ) arg5 fullShare s.1 ∗ owns (c : Thread nD τ) arg6 fullShare s.2
        ∗ (iprop(owns (c : Thread nD τ) arg1 fullShare X ∗ owns (c : Thread nD τ) arg2 fullShare base ∗ owns (c : Thread nD τ) arg3 fullShare lane
            ∗ owns (c : Thread nD τ) arg4 fullShare (k0_pay11 lane (afterEdge i h3 X base lane s).1 (afterEdge i h3 X base lane s).2) ∗ owns (c : Thread nD τ) arg5 fullShare (afterEdge i h3 X base lane s).1
            ∗ owns (c : Thread nD τ) arg6 fullShare (afterEdge i h3 X base lane s).2) -∗ K ⟨⟩))
      ⊢ wp frame (wpE (defs₀ (F := F)) Variants.none c none) E
          (cc0__sample_kernel i arg1 harg1 arg2 harg2 arg3 harg3 arg4 harg4 arg5 harg5 arg6 harg6) K := by
  simp only [cc0__sample_kernel_eq_skeleton]; unfold cc0__sample_kernel_skel
  unfold owns
  iintro ⟨⟨%f0, %hf0, H0⟩, ⟨%f1, %hf1, H1⟩, ⟨%f2, %hf2, H2⟩, ⟨%d4, %f3, %hf3, H3⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg5.eq_unread hfs0; obtain rfl := harg6.eq_unread hfs1
  sl_exec (disch := first | sl_exact h1 | sl_exact h2 | sl_exact h3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro; exact read_last c i arg1 harg1 arg2 harg2 arg3 harg3 arg4 harg4 arg5 harg5 arg6 harg6 X base lane h3 s f3
  isplitl [HS0]
  · iexists _; isplitr
    swap; · iexact HS0
    ipureintro; exact (congrArg (View.read (Elt F) arg5.view) (left_edge c i arg1 harg1 arg2 harg2 arg3 harg3 arg4 harg4 arg5 harg5 arg6 harg6 X base lane h3 s).1).trans (harg5.read_unread _)
  iexists _; isplitr
  swap; · iexact HS1
  ipureintro; exact (congrArg (View.read (Elt F) arg6.view) (left_edge c i arg1 harg1 arg2 harg2 arg3 harg3 arg4 harg4 arg5 harg5 arg6 harg6 X base lane h3 s).2).trans (harg6.read_unread _)

end Cert.KernelIdeal.Gumbel
-- ==== Proof.Tables.lean ====
module

public import proofs.«01_k».proof.KernelIdeal

@[expose] public section

/-! # The two literal tables of the kernel, in closed form

Entry `n` of either table belongs to row `n / 512` and lane `n % 512`. -/

namespace Cert.KernelIdeal.Gumbel

open Cert.KernelIdeal

-- each of the 16384 entries is evaluated
set_option maxHeartbeats 0 in
/-- The lane table: entry `n` is its lane. -/
theorem lane_entries : ∀ n : Fin 16384, lit1 n = BitVec.ofNat 32 (n.val % 512) := by decide +kernel

set_option maxHeartbeats 0 in
/-- The base table: entry `n` is the cipher's counter of column `n % 512` of row `n / 512`, the key word 3453687069
    already added. -/
theorem base_entries : ∀ n : Fin 16384, lit0 n = BitVec.ofNat 32 (n.val / 512 * 1000000 + n.val % 512 + 3453687069) := by
  decide +kernel

end Cert.KernelIdeal.Gumbel
-- ==== Proof.Blocks.lean ====
module

public import proofs.«01_k».proof.Proof.Trip
public import proofs.«01_k».proof.Proof.Tables
public import Idealize.ShloMosaic.Lib.ValueIdxCore

@[expose] public section

/-! # What the blocks handed to the body hold

The scores' block at point `t` is columns `32768·t` and on; the two tables are whole at every point. -/

noncomputable section

namespace Cert.KernelIdeal.Gumbel

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ)

/-- The first counter of each lane, the key word added. -/
def baseTable : Vec F S32x512 .i32 := fun j => BitVec.ofNat 32 ((j 0).val * 1000000 + (j 1).val + 3453687069)

/-- The lane of each element. -/
def laneTable : Vec F S32x512 .i32 := fun j => BitVec.ofNat 32 (j 1).val

/-- The first table as the launch finds it. -/
theorem V_base (c : Dev nD) : V m c main_call0_c = fun j => lit0 (S32x512.rowMajor j) := by
  unfold V V0
  simp only [hostOps0, List.flatten_cons, List.flatten_nil, List.append_nil, StableHlo.after_cons, StableHlo.after_nil]
  exact (StableHlo.nullary_result_ne (y := main_call0_c_0) _ _ _ (by decide)).trans
    (StableHlo.nullary_result (main_call0_c : Ref sig .tc) _ _ _)

/-- The second table as the launch finds it. -/
theorem V_lane (c : Dev nD) : V m c main_call0_c_0 = fun j => lit1 (S32x512.rowMajor j) := by
  unfold V V0
  simp only [hostOps0, List.flatten_cons, List.flatten_nil, List.append_nil, StableHlo.after_cons, StableHlo.after_nil]
  exact StableHlo.nullary_result _ _ _ _

/-- The row-major position of an element of the tables. -/
theorem position (j : S32x512.Idx) : (S32x512.rowMajor j : ℕ) = (j 0).val * 512 + (j 1).val := by
  exact Shape.rowMajor_val_two (d := ![32, 512]) j

/-- An element's row is one of 32. -/
theorem row_lt (j : S32x512.Idx) : (j 0).val < 32 := (j 0).isLt
/-- An element's lane is one of 512. -/
theorem lane_lt (j : S32x512.Idx) : (j 1).val < 512 := (j 1).isLt

/-- The base table's closed form, read at an index. -/
theorem base_at (j : S32x512.Idx) : lit0 (S32x512.rowMajor j) = BitVec.ofNat 32 ((j 0).val * 1000000 + (j 1).val + 3453687069) := by
  refine (base_entries _).trans ?_
  have h := lane_lt j
  have e := position j
  have e1 : (S32x512.rowMajor j : ℕ) / 512 = (j 0).val := by omega
  have e2 : (S32x512.rowMajor j : ℕ) % 512 = (j 1).val := by omega
  exact congrArg₂ (fun a b => BitVec.ofNat 32 (a * 1000000 + b + 3453687069)) e1 e2

/-- The lane table's. -/
theorem lane_at (j : S32x512.Idx) : lit1 (S32x512.rowMajor j) = BitVec.ofNat 32 (j 1).val := by
  refine (lane_entries _).trans (congrArg (BitVec.ofNat 32) ?_)
  have h := lane_lt j
  have e := position j
  show (S32x512.rowMajor j : ℕ) % 512 = (j 1).val
  omega

/-- Every point's block of the first table is the whole table. -/
theorem base_block (c : Dev nD) (t : Fin cfg0.N) : iblk m c 1 t = baseTable (F := F) := by
  funext j
  unfold iblk
  rw [View.read_apply]
  show V m c main_call0_c _ = _
  refine (congrFun (V_base m c) _).trans ((base_at _).trans ?_)
  have e : ((cfg0.win 1).blk t).view.emb j = j := by
    funext a; apply Fin.ext
    match a with
    | ⟨0, _⟩ => show win0_1.index t 0 * 32 + 1 * (j 0).val = (j 0).val; rw [show win0_1.index t 0 = 0 from rfl]; omega
    | ⟨1, _⟩ => show win0_1.index t 1 * 512 + 1 * (j 1).val = (j 1).val; rw [show win0_1.index t 1 = 0 from rfl]; omega
  exact congrArg (baseTable (F := F)) e

/-- Every point's block of the second table is the whole table. -/
theorem lane_block (c : Dev nD) (t : Fin cfg0.N) : iblk m c 2 t = laneTable (F := F) := by
  funext j
  unfold iblk
  rw [View.read_apply]
  show V m c main_call0_c_0 _ = _
  refine (congrFun (V_lane m c) _).trans ((lane_at _).trans ?_)
  have e : ((cfg0.win 2).blk t).view.emb j = j := by
    funext a; apply Fin.ext
    match a with
    | ⟨0, _⟩ => show win0_2.index t 0 * 32 + 1 * (j 0).val = (j 0).val; rw [show win0_2.index t 0 = 0 from rfl]; omega
    | ⟨1, _⟩ => show win0_2.index t 1 * 512 + 1 * (j 1).val = (j 1).val; rw [show win0_2.index t 1 = 0 from rfl]; omega
  exact congrArg (laneTable (F := F)) e

/-- The scores the kernel is given. -/
abbrev logits (c : Dev nD) : Vec F S32x1000000 .f32 := m ((c : Thread nD τ).loc main_arg0)

/-- The grid has 31 points. -/
theorem grid_count : cfg0.N = 31 := N_0

/-- The coordinate of point `t` is `t`. -/
theorem coord_eq (t : Fin cfg0.N) : (grid0.coords t 0).val = t.val := by
  have := t.isLt
  rw [show (grid0.coords t 0).val = t.val / 1 % 31 from Pipeline.Grid.coords_val t 0 (by decide) rfl]
  have := grid_count
  omega

/-- Point `t` reads block column `t`. -/
theorem scores_index : ∀ t : Fin cfg0.N, win0_0.index t 1 = t.val := by
  exact (by decide +kernel : ∀ t : Fin grid0.N, win0_0.index t 1 = t.val)

/-- How much of each block lies inside the array. -/
theorem scores_inside : ∀ t : Fin cfg0.N, win0_0.xsize (grid0.coords t) 0 = 32
    ∧ win0_0.xsize (grid0.coords t) 1 = min 32768 (1000000 - t.val * 32768) := by
  exact (by decide +kernel : ∀ t : Fin grid0.N, win0_0.xsize (grid0.coords t) 0 = 32
    ∧ win0_0.xsize (grid0.coords t) 1 = min 32768 (1000000 - t.val * 32768))

/-- The part of the array a block's transfer moves: the columns inside the array. -/
theorem moved_iff (t : Fin cfg0.N) (r : Fin 32) (l : Fin 32768) :
    win0_0.moved (grid0.coords t) (ix2 r l) = true ↔ t.val * 32768 + l.val < 1000000 := by
  rw [win0_0.moved_iff]
  obtain ⟨e0, e1⟩ := scores_inside t
  have hr := r.isLt
  have hl := l.isLt
  constructor
  · intro h
    have h1 : l.val < win0_0.xsize (grid0.coords t) 1 := h (1 : Fin 2)
    rw [e1] at h1
    omega
  · intro h a
    match a with
    | ⟨0, _⟩ => show r.val < win0_0.xsize (grid0.coords t) 0; rw [e0]; exact hr
    | ⟨1, _⟩ => show l.val < win0_0.xsize (grid0.coords t) 1; rw [e1]; omega

/-- The block of scores at point `t`, whatever fills it out past the array's end, read at a column of the array. -/
theorem scores_block (c : Dev nD) (t : Fin cfg0.N) (d : S32x32768.Idx → F .f32) (r : Fin 32) (l : Fin 32768) (h : t.val * 32768 + l.val < 1000000) :
    win0_0.fill (grid0.coords t) d (iblk m c 0 t) (ix2 r l) = logits m c (ix2 r ⟨t.val * 32768 + l.val, h⟩) := by
  unfold Window.fill
  rw [dif_pos ((moved_iff t r l).mpr h)]
  unfold iblk
  rw [View.read_apply]
  show V m c main_arg0 _ = _
  refine (congrFun (V_main_arg0 m c) _).trans (congrArg (logits m c) ?_)
  funext a; apply Fin.ext
  match a with
  | ⟨0, _⟩ => show win0_0.index t 0 * 32 + 1 * r.val = r.val; rw [show win0_0.index t 0 = 0 from rfl]; omega
  | ⟨1, _⟩ => show win0_0.index t 1 * 32768 + 1 * l.val = t.val * 32768 + l.val; rw [scores_index]; omega

end Cert.KernelIdeal.Gumbel
-- ==== Proof.Cipher.lean ====
module

public import Idealize.ShloMosaic.PureOps

@[expose] public section

/-! # The cipher and the noise, one word at a time

Threefry-2x32 with twenty rounds, and the transform that makes a Gumbel variate's `log(-log u)` of the word it gives. -/

noncomputable section

namespace Cert.Gumbel

open Idealize.ShloMosaic

/-- A pair of words of the cipher. -/
abbrev Pair : Type := BitVec 32 × BitVec 32

/-- A word turned left by `r` bits. -/
def turn (x : BitVec 32) (r : ℕ) : BitVec 32 := (x <<< r) ||| (x >>> (32 - r))

/-- One round: add, then turn and mix. -/
def round (r : ℕ) (p : Pair) : Pair := (p.1 + p.2, (p.1 + p.2) ^^^ turn p.2 r)

/-- Key words added. -/
def keyed (a b : BitVec 32) (p : Pair) : Pair := (p.1 + a, p.2 + b)

/-- The two groups of four rounds. -/
def turnsA (p : Pair) : Pair := round 6 (round 26 (round 15 (round 13 p)))
/-- The four rounds of every second group. -/
def turnsB (p : Pair) : Pair := round 24 (round 16 (round 29 (round 17 p)))

/-- The rounds and the key words between them, on a pair the first key words were added to. -/
def rounds (k0 k1 k2 : BitVec 32) (p : Pair) : Pair :=
  keyed k2 (k0 + 5#32) (turnsA (keyed k1 (k2 + 4#32) (turnsB (keyed k0 (k1 + 3#32) (turnsA
    (keyed k2 (k0 + 2#32) (turnsB (keyed k1 (k2 + 1#32) (turnsA p)))))))))

/-- The key's words. -/
def key0 : BitVec 32 := 928981903#32
/-- The second word of the key. -/
def key1 : BitVec 32 := 3453687069#32
/-- The third word of the key, made from the other two. -/
def key2 : BitVec 32 := 3780455752#32

/-- The word drawn for the counter whose low word, the key added, is `w`. -/
def drawn (w : BitVec 32) : BitVec 32 :=
  (rounds key0 key1 key2 (key0, w)).1 ^^^ (rounds key0 key1 key2 (key0, w)).2

variable {F : FTy → Type} [FloatOps F]

/-- A word's top 23 bits as a float in [0, 1). -/
def unit (b : BitVec 32) : F .f32 :=
  FloatOps.subf (Scalar.ofBits .f32 ((b >>> 9) ||| 1065353216#32)) (Scalar.ofBits .f32 0x3F800000#32)

/-- `log(-log u)` for the uniform draw `u` of the counter whose low word, the key added, is `w`. -/
def noiseOf (w : BitVec 32) : F .f32 :=
  FloatOps.log (FloatOps.subf (Scalar.ofBits .f32 0x00000000#32)
    (FloatOps.log (FloatOps.addf (unit (drawn w)) (Scalar.ofBits .f32 0x1E3CE508#32))))

end Cert.Gumbel
-- ==== Proof.Noise.lean ====
module

public import proofs.«01_k».proof.Proof.Trip
public import proofs.«01_k».proof.Proof.Cipher

@[expose] public section

/-! # The kernel's noise is the cipher's, element by element -/

noncomputable section

namespace Cert.KernelIdeal.Gumbel

open Cert.KernelIdeal Cert.KernelIdeal.Gen Cert.Gumbel
open Idealize.ShloMosaic Idealize.ShloMosaic.TcCoe Idealize.ShloMosaic.Tactic

variable {F : FTy → Type} [FloatOps F]

/-- Four rounds and a half: up to the sum and the turned word of round five, from the words of round one. -/
def lead (s w : BitVec 32) : Pair :=
  keyed key1 (key2 + 1#32) (round 6 (round 26 (round 15 (s, s ^^^ turn w 13))))

/-- Rounds six to ten, up to the sum and the turned word of round eleven. -/
def middle (p : Pair) : Pair := round 15 (round 13 (keyed key2 (key0 + 2#32) (round 24 (round 16 (round 29 p)))))

/-- Rounds twelve to sixteen. -/
def late (p : Pair) : Pair :=
  keyed key1 (key2 + 4#32) (turnsB (keyed key0 (key1 + 3#32) (round 6 p)))

/-- The sum that opens the second round. -/
theorem first_sum (a0 : BitVec 32) (base : Vec F S32x512 .i32) (k) (j) :
    k0_pay21 (F := F) a0 base 0#32 1#32 k j
      = (lead (k0_pay13 (F := F) a0 base 0#32 1#32 k j) (k0_pay12 (F := F) a0 base 0#32 1#32 k j)).1
        + (lead (k0_pay13 (F := F) a0 base 0#32 1#32 k j) (k0_pay12 (F := F) a0 base 0#32 1#32 k j)).2 := rfl

/-- The turned word of the second round. -/
theorem first_turn (a0 : BitVec 32) (base : Vec F S32x512 .i32) (k) (j) :
    k0_pay22 (F := F) a0 base 0#32 1#32 k j
      = turn (lead (k0_pay13 (F := F) a0 base 0#32 1#32 k j) (k0_pay12 (F := F) a0 base 0#32 1#32 k j)).2 17 := rfl

/-- The sum after the middle rounds. -/
theorem middle_sum (x y : IVec S32x512 32) (j) :
    k0_pay34 x y j = (middle (x j, x j ^^^ y j)).1 + (middle (x j, x j ^^^ y j)).2 := rfl

/-- The turned word after the middle rounds. -/
theorem middle_turn (x y : IVec S32x512 32) (j) : k0_pay35 x y j = turn (middle (x j, x j ^^^ y j)).2 26 := rfl

/-- The second word after the late rounds. -/
theorem late_second (x y : IVec S32x512 32) (j) : k0_pay46 x y j = (late (x j, x j ^^^ y j)).2 := rfl

/-- The sum after the late rounds. -/
theorem late_sum (x y : IVec S32x512 32) (j) :
    k0_pay47 x y j = (late (x j, x j ^^^ y j)).1 + (late (x j, x j ^^^ y j)).2 := rfl

/-- The last four rounds, the last key words and the mixing of the two words. -/
def last (b s : BitVec 32) : Pair := keyed key2 (key0 + 5#32) (round 6 (round 26 (round 15 (s, s ^^^ turn b 13))))

/-- The last rounds and the logarithms. -/
theorem last_noise (b s : IVec S32x512 32) (j) :
    k0_pay48 (F := F) b s 13#32 j
      = FloatOps.log (FloatOps.subf (Scalar.ofBits .f32 0x00000000#32)
          (FloatOps.log (FloatOps.addf (unit ((last (b j) (s j)).1 ^^^ (last (b j) (s j)).2)) (Scalar.ofBits .f32 0x1E3CE508#32)))) := rfl

/-- The kernel's noise at an element: the cipher's at the counter the base table and the tile give. -/
theorem noise_at (a0 : BitVec 32) (base : Vec F S32x512 .i32) (k : Fin k0_t1_loop.trips) (j : S32x512.Idx) :
    noise a0 base k j = noiseOf (base j + (a0 * 32768#32 + Scf.iv 0#32 1#32 k * 512#32)) := by
  unfold noise
  rw [last_noise, late_second, late_sum, middle_sum, middle_turn, first_sum, first_turn]
  rw [show k0_pay13 (F := F) a0 base 0#32 1#32 k j = key0 + k0_pay12 (F := F) a0 base 0#32 1#32 k j from
    BitVec.add_comm _ _]
  rw [show k0_pay12 (F := F) a0 base 0#32 1#32 k j = base j + (a0 * 32768#32 + Scf.iv 0#32 1#32 k * 512#32) from rfl]
  rfl

end Cert.KernelIdeal.Gumbel
-- ==== Proof.Steps.lean ====
module

public import proofs.«01_k».proof.Proof.Body
public import proofs.«01_k».proof.Proof.Blocks
public import proofs.«01_k».proof.Proof.Noise

@[expose] public section

/-! # What the accumulators hold after any number of tiles

Lane `l` of row `r` has scanned columns `l`, `512 + l`, `1024 + l`, … of the row: `scan` says what it keeps. Each trip
of either loop takes the accumulators from `n` tiles scanned to `n + 1`. -/

noncomputable section

namespace Cert.KernelIdeal.Gumbel

open Cert.KernelIdeal Cert.KernelIdeal.Gen Cert.Gumbel
open Idealize.ShloMosaic Idealize.ShloMosaic.TcCoe Idealize.ShloMosaic.Tactic Idealize.ShloMosaic.ValueIdx
open Idealize.ShloMosaic.Pipeline (Dat Cfg Window)

variable {F : FTy → Type} [FloatOps F]

/-- The score of a column of a row: the logit less `log(-log u)`. -/
def scoreAt (x : Vec F S32x1000000 .f32) (r : Fin 32) (col : Fin 1000000) : F .f32 :=
  FloatOps.addf (x (ix2 r col)) (FloatOps.subf (Scalar.ofBits .f32 0x00000000#32)
    (noiseOf (BitVec.ofNat 32 (r.val * 1000000 + col.val + 3453687069))))

/-- A lane's best score and the tile it was in, after a tile with score `v`. -/
def keep (v : F .f32) (n : ℕ) (s : F .f32 × BitVec 32) : F .f32 × BitVec 32 :=
  if FloatOps.cmpf .ogt v s.1 = 1#1 then (v, BitVec.ofNat 32 n) else s

/-- What lane `l` of row `r` keeps of its first `n` tiles. -/
def scan (x : Vec F S32x1000000 .f32) (r : Fin 32) (l : Fin 512) : ℕ → F .f32 × BitVec 32
  | 0 => (Scalar.ofBits .f32 0xFF800000#32, 0#32)
  | n + 1 => if h : n * 512 + l.val < 1000000 then keep (scoreAt x r ⟨n * 512 + l.val, h⟩) n (scan x r l n) else scan x r l n

/-- One more tile of a lane's scan. -/
theorem scan_succ (x : Vec F S32x1000000 .f32) (r : Fin 32) (l : Fin 512) (n : ℕ) :
    scan x r l (n + 1)
      = if h : n * 512 + l.val < 1000000 then keep (scoreAt x r ⟨n * 512 + l.val, h⟩) n (scan x r l n) else scan x r l n := rfl

/-- An element's row and lane. -/
def rowOf (j : S32x512.Idx) : Fin 32 := ⟨(j 0).val, row_lt j⟩
/-- An element's lane. -/
def laneOf (j : S32x512.Idx) : Fin 512 := ⟨(j 1).val, lane_lt j⟩

/-- The accumulators after `n` tiles. -/
def accs (x : Vec F S32x1000000 .f32) (n : ℕ) : Acc F :=
  (fun j => (scan x (rowOf j) (laneOf j) n).1, fun j => (scan x (rowOf j) (laneOf j) n).2)

/-- Before any tile the accumulators hold the start. -/
theorem accs_start (x : Vec F S32x1000000 .f32) : (start : Acc F) = accs x 0 := by
  refine Prod.ext ?_ ?_
  · show shapeCast S32x512 (broadcast S32x512 (Scalar.ofBits .f32 0xFF800000#32 : F .f32)) shapeCasts_S32x512_S32x512 = _
    rw [shapeCast_self]
    rfl
  · show shapeCast S32x512 (broadcast S32x512 0#32) shapeCasts_S32x512_S32x512 = _
    rw [shapeCast_self]
    rfl

/-- The loop without the mask has 64 trips. -/
theorem trips_whole : k0_t1_loop.trips = 64 := by decide
/-- The loop with the mask has 64 trips. -/
theorem trips_edge : k0_t2_loop.trips = 64 := by decide

/-- The loop's counter is the trip's number. -/
theorem iv_eq (k : ℕ) : Scf.iv 0#32 1#32 k = BitVec.ofNat 32 k := by
  unfold Scf.iv
  simp

variable (m : (ℓ : Loc nD τ sig) → Buf (Elt F) ℓ)

/-- The block of scores at point `t`, filled out past the array's end by `d`. -/
abbrev block (c : Dev nD) (t : Fin cfg0.N) (d : S32x32768.Idx → F .f32) : Vec F S32x32768 .f32 :=
  win0_0.fill (grid0.coords t) d (iblk m c 0 t)

/-- A tile of a block, read at a column of the array. -/
theorem tile_at (c : Dev nD) (t : Fin cfg0.N) (d : S32x32768.Idx → F .f32) (off : Fin 2 → ℕ) (hoff) (k : ℕ)
    (e : off = ![0, 512 * k]) (j : S32x512.Idx) (h : (64 * t.val + k) * 512 + (j 1).val < 1000000) (hk : k < 64) :
    tileAt (block m c t d) off hoff j = logits m c (ix2 (rowOf j) ⟨(64 * t.val + k) * 512 + (j 1).val, h⟩) := by
  subst e
  have hl := lane_lt j
  have hh : t.val * 32768 + (512 * k + (j 1).val) < 1000000 := by omega
  refine Eq.trans ?_ ((scores_block m c t d (rowOf j) ⟨512 * k + (j 1).val, by omega⟩ hh).trans ?_)
  · show win0_0.fill (grid0.coords t) d (iblk m c 0 t) _ = _
    congr 1
    funext a; apply Fin.ext
    match a with
    | ⟨0, _⟩ => show 0 + 1 * (j 0).val = (j 0).val; omega
    | ⟨1, _⟩ => show 512 * k + 1 * (j 1).val = 512 * k + (j 1).val; omega
  · congr 2
    apply Fin.ext
    show t.val * 32768 + (512 * k + (j 1).val) = (64 * t.val + k) * 512 + (j 1).val
    omega

/-- The noise of a tile's element: its own counter's. -/
theorem noise_tile (i : grid0.Coords) (k : Fin k0_t1_loop.trips) (j : S32x512.Idx) :
    noise (F := F) (BitVec.ofNat 32 (i 0).val) baseTable k j
      = noiseOf (BitVec.ofNat 32 ((j 0).val * 1000000 + ((64 * (i 0).val + k.val) * 512 + (j 1).val) + 3453687069)) := by
  rw [noise_at, iv_eq]
  refine congrArg noiseOf ?_
  show BitVec.ofNat 32 _ + (BitVec.ofNat 32 _ * BitVec.ofNat 32 32768 + BitVec.ofNat 32 _ * BitVec.ofNat 32 512) = _
  rw [← BitVec.ofNat_mul, ← BitVec.ofNat_mul, ← BitVec.ofNat_add, ← BitVec.ofNat_add]
  refine congrArg (BitVec.ofNat 32) ?_
  omega

/-- The number of a tile, as the kernel computes it. -/
theorem tile_number (a k : ℕ) :
    Scalar.addi (Scalar.muli (BitVec.ofNat 32 a) 64#32) (Scf.iv 0#32 1#32 k) = BitVec.ofNat 32 (64 * a + k) := by
  rw [iv_eq]
  show BitVec.ofNat 32 a * BitVec.ofNat 32 64 + BitVec.ofNat 32 k = _
  rw [← BitVec.ofNat_mul, ← BitVec.ofNat_add, Nat.mul_comm]

/-- A step's two selections on the same bit are one choice between pairs. -/
theorem select_pair {α β : Type} (b : BitVec 1) (v : α) (n : β) (s : α × β) :
    (Scalar.select b v s.1, Scalar.select b n s.2) = if b = 1#1 then (v, n) else s := by
  unfold Scalar.select
  by_cases h : b = 1#1
  · exact (congrArg₂ Prod.mk (if_pos h) (if_pos h)).trans (if_pos h).symm
  · exact (congrArg₂ Prod.mk (if_neg h) (if_neg h)).trans (if_neg h).symm

/-- A trip of the loop without the mask, at an element. -/
theorem stepWhole_at (i : grid0.Coords) (base : Vec F S32x512 .i32) (k) (tile : Vec F S32x512 .f32) (s : Acc F) (j) :
    ((stepWhole i base k tile s).1 j, (stepWhole i base k tile s).2 j)
      = keep (FloatOps.addf (tile j) (FloatOps.subf (Scalar.ofBits .f32 0x00000000#32) (noise (BitVec.ofNat 32 (i 0).val) base k j)))
          (64 * (i 0).val + k.val) (s.1 j, s.2 j) := by
  unfold stepWhole k0_pay5 k0_pay6 keep
  simp only [shapeCast_self, tile_number]
  exact select_pair _ _ _ (s.1 j, s.2 j)

/-- A trip of the loop with the mask, at an element. -/
theorem stepEdge_at (i : grid0.Coords) (base lane : Vec F S32x512 .i32) (k) (tile : Vec F S32x512 .f32) (s : Acc F) (j) :
    ((stepEdge i base lane k tile s).1 j, (stepEdge i base lane k tile s).2 j)
      = if IntOp.cmpi .slt (lane j + firstCol i k) 1000000#32 = 1#1 then
          keep (FloatOps.addf (tile j) (FloatOps.subf (Scalar.ofBits .f32 0x00000000#32) (noise (BitVec.ofNat 32 (i 0).val) base k j)))
            (64 * (i 0).val + k.val) (s.1 j, s.2 j)
        else (s.1 j, s.2 j) := by
  unfold stepEdge k0_pay9 k0_pay10 keep
  simp only [shapeCast_self, tile_number]
  refine (select_pair _ _ _ (s.1 j, s.2 j)).trans ?_
  rw [show ∀ (g : FVec F S32x512 .f32) (z : F .f32), k0_pay8 lane (firstCol i k) g z tile s.1 j
      = FloatOps.cmpf .ogt (FloatOps.addf (tile j) (FloatOps.subf z (g j))) (s.1 j)
        &&& IntOp.cmpi .slt (lane j + firstCol i k) 1000000#32 from fun _ _ => rfl]
  have key : ∀ a b : BitVec 1, (a &&& b = 1#1) ↔ (b = 1#1 ∧ a = 1#1) := by decide
  rw [if_congr (key _ _) rfl rfl, ite_and]
  rfl

/-- Whether a lane's column is inside the array, as the kernel computes it. -/
theorem column_test (i : grid0.Coords) (k : Fin k0_t2_loop.trips) (j : S32x512.Idx) :
    IntOp.cmpi .slt (laneTable (F := F) j + firstCol i k) 1000000#32 = 1#1
      ↔ (64 * (i 0).val + k.val) * 512 + (j 1).val < 1000000 := by
  have hl := lane_lt j
  have hi : (i 0).val < 31 := (i 0).isLt
  have hk : k.val < 64 := trips_edge ▸ k.isLt
  have e : laneTable (F := F) j + firstCol i k = BitVec.ofNat 32 ((64 * (i 0).val + k.val) * 512 + (j 1).val) := by
    unfold laneTable firstCol
    rw [iv_eq]
    show BitVec.ofNat 32 _ + (BitVec.ofNat 32 _ * BitVec.ofNat 32 32768 + BitVec.ofNat 32 _ * BitVec.ofNat 32 512) = _
    rw [← BitVec.ofNat_mul, ← BitVec.ofNat_mul, ← BitVec.ofNat_add, ← BitVec.ofNat_add]
    refine congrArg (BitVec.ofNat 32) ?_
    omega
  rw [e]
  generalize hn : (64 * (i 0).val + k.val) * 512 + (j 1).val = n
  have hn' : n < 2 ^ 31 := by omega
  unfold IntOp.cmpi
  simp only [BitVec.slt]
  rw [show ∀ b : Bool, BitVec.ofBool b = 1#1 ↔ b = true from by decide, decide_eq_true_iff,
    BitVec.toInt_eq_toNat_of_lt (by simp; omega), BitVec.toInt_eq_toNat_of_lt (by decide)]
  simp only [BitVec.toNat_ofNat]
  omega

/-- A pair of accumulators is known by its elements. -/
theorem acc_ext {s s' : Acc F} (h : ∀ j, (s.1 j, s.2 j) = (s'.1 j, s'.2 j)) : s = s' :=
  Prod.ext (funext fun j => congrArg Prod.fst (h j)) (funext fun j => congrArg Prod.snd (h j))

/-- The score of a tile's element, as the steps compute it. -/
theorem score_tile (c : Dev nD) (t : Fin cfg0.N) (d) (off) (hoff) (k : Fin k0_t1_loop.trips) (e : off = ![0, 512 * k.val]) (j : S32x512.Idx)
    (h : (64 * t.val + k.val) * 512 + (j 1).val < 1000000) :
    FloatOps.addf (tileAt (block m c t d) off hoff j) (FloatOps.subf (Scalar.ofBits .f32 0x00000000#32)
        (noise (BitVec.ofNat 32 (grid0.coords t 0).val) baseTable k j))
      = scoreAt (logits m c) (rowOf j) ⟨(64 * t.val + k.val) * 512 + (j 1).val, h⟩ := by
  rw [noise_tile, tile_at m c t d off hoff k.val e j h (trips_whole ▸ k.isLt), coord_eq]
  rfl

/-- A trip of the loop without the mask is one tile of the scan. -/
theorem whole_step (c : Dev nD) (t : Fin cfg0.N) (d) (k : Fin k0_t1_loop.trips) (off) (hoff) (e : off = ![0, 512 * k.val]) (ht : t.val < 30) :
    stepWhole (grid0.coords t) baseTable k (tileAt (block m c t d) off hoff) (accs (logits m c) (64 * t.val + k.val))
      = accs (logits m c) (64 * t.val + k.val + 1) := by
  refine acc_ext fun j => ?_
  have hk : k.val < 64 := trips_whole ▸ k.isLt
  have hl := lane_lt j
  have h : (64 * t.val + k.val) * 512 + (j 1).val < 1000000 := by omega
  rw [stepWhole_at, score_tile m c t d off hoff k e j h, coord_eq]
  exact ((scan_succ (logits m c) (rowOf j) (laneOf j) _).trans (dif_pos h)).symm

/-- A trip of the loop with the mask is one tile of the scan. -/
theorem edge_step (c : Dev nD) (t : Fin cfg0.N) (d) (k : Fin k0_t2_loop.trips) (off) (hoff) (e : off = ![0, 512 * k.val]) :
    stepEdge (grid0.coords t) baseTable laneTable k (tileAt (block m c t d) off hoff) (accs (logits m c) (64 * t.val + k.val))
      = accs (logits m c) (64 * t.val + k.val + 1) := by
  refine acc_ext fun j => ?_
  rw [stepEdge_at, if_congr (column_test (F := F) (grid0.coords t) k j) rfl rfl, coord_eq]
  by_cases h : (64 * t.val + k.val) * 512 + (j 1).val < 1000000
  · have e1 := score_tile m c t d off hoff k e j h
    rw [coord_eq] at e1
    rw [if_pos h, e1]
    exact ((scan_succ (logits m c) (rowOf j) (laneOf j) _).trans (dif_pos h)).symm
  · rw [if_neg h]
    exact ((scan_succ (logits m c) (rowOf j) (laneOf j) _).trans (dif_neg h)).symm

/-- A block's trips, each of which scans the next tile, scan the block's tiles. -/
theorem fold_accs {N : ℕ} (step : Fin N → Acc F → Acc F) (x : Vec F S32x1000000 .f32) (n0 : ℕ)
    (h : ∀ k : Fin N, step k (accs x (n0 + k.val)) = accs x (n0 + k.val + 1)) :
    ∀ n ≤ N, fold step (accs x n0) n = accs x (n0 + n)
  | 0, _ => rfl
  | n + 1, hn => by
    refine (dif_pos (Nat.lt_of_succ_le hn)).trans ?_
    rw [fold_accs step x n0 h n (by omega)]
    exact h ⟨n, hn⟩

/-- The loop without the mask scans its block's 64 tiles. -/
theorem whole_accs (c : Dev nD) (t : Fin cfg0.N) (d) (h2 : k0_cond2 (grid0.coords t) = 1#1) (ht : t.val < 30) :
    afterWhole (grid0.coords t) h2 (block m c t d) baseTable (accs (logits m c) (64 * t.val))
      = accs (logits m c) (64 * (t.val + 1)) := by
  unfold afterWhole
  refine (fold_accs _ _ (64 * t.val) (fun k => whole_step m c t d k _ _ (k0_off1_eq k) ht) _ le_rfl).trans ?_
  rw [trips_whole]; rfl

/-- The loop with the mask scans the last 64 tiles. -/
theorem edge_accs (c : Dev nD) (t : Fin cfg0.N) (d) (h3 : k0_cond3 (grid0.coords t) = 1#1) :
    afterEdge (grid0.coords t) h3 (block m c t d) baseTable laneTable (accs (logits m c) (64 * t.val))
      = accs (logits m c) (64 * (t.val + 1)) := by
  unfold afterEdge
  refine (fold_accs _ _ (64 * t.val) (fun k => edge_step m c t d k _ _ (k0_off2_eq k)) _ le_rfl).trans ?_
  rw [trips_edge]; rfl

end Cert.KernelIdeal.Gumbel
-- ==== Proof.Run.lean ====
module

public import proofs.«01_k».proof.Proof.Steps
public import Idealize.ShloMosaic.Lib.Claim

@[expose] public section

/-! # The kernel's run

Between points the two scratch buffers hold what `accs` says; the last point's block is the one written back. -/

noncomputable section

namespace Cert.KernelIdeal.Gumbel

open Cert.KernelIdeal Cert.KernelIdeal.Gen Cert.Gumbel
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

/-! ## What each point does, decided over the grid -/

/-- The first point is number 0. -/
theorem first_iff : ∀ t : Fin cfg0.N, isFirst (grid0.coords t) ↔ t.val = 0 := by
  exact (by decide +kernel : ∀ t : Fin grid0.N, isFirst (grid0.coords t) ↔ t.val = 0)

/-- The points before number 30 take the loop without the mask. -/
theorem whole_iff : ∀ t : Fin cfg0.N, k0_cond2 (grid0.coords t) = 1#1 ↔ t.val < 30 := by
  exact (by decide +kernel : ∀ t : Fin grid0.N, k0_cond2 (grid0.coords t) = 1#1 ↔ t.val < 30)

/-- The other point, number 30, takes the loop with the mask. -/
theorem last_iff : ∀ t : Fin cfg0.N, k0_cond3 (grid0.coords t) = 1#1 ↔ ¬t.val < 30 := by
  exact (by decide +kernel : ∀ t : Fin grid0.N, k0_cond3 (grid0.coords t) = 1#1 ↔ ¬t.val < 30)

/-- Before the last point the result block is not touched. -/
theorem result_idle : ∀ t : Fin cfg0.N, t.val < 30 → cfg0.idle 3 (grid0.coords t) = true := by decide +kernel

/-- At the last point the result block is written. -/
theorem result_live : ∀ t : Fin cfg0.N, ¬t.val < 30 → cfg0.idle 3 (grid0.coords t) = false := by decide +kernel

/-- Before the last point nothing is written back. -/
theorem result_stays (t : Fin cfg0.N) (h : t.val < 30) : (cfg0.win 3).flush t = false := by
  have := flush0_3 t
  cases hf : (cfg0.win 3).flush t
  · rfl
  · exact absurd ((flush0_3 t).mp hf) (by omega)

/-! ## The proof data -/

variable (m : (ℓ : Loc nD τ sig) → Buf (Elt F) ℓ)

/-- The two scratch buffers after `n` points, and the generator register at some state. -/
def held (c : Dev nD) (n : ℕ) : sProp 𝕄 :=
  iprop(iprop(owns (c : Thread nD τ) (Memref.whole cc0_scratch0) fullShare (accs (logits m c) (64 * n)).1
    ∗ owns (c : Thread nD τ) (Memref.whole cc0_scratch1) fullShare (accs (logits m c) (64 * n)).2) ∗ (∃ r, prngReg c r))

/-- The same, at anything. -/
theorem loose_eq (c : Dev nD) : (Pipeline.ΦA spec0 c : sProp 𝕄)
    = iprop(iprop((∃ d, owns (c : Thread nD τ) (Memref.whole cc0_scratch0) fullShare d)
        ∗ (∃ d, owns (c : Thread nD τ) (Memref.whole cc0_scratch1) fullShare d)) ∗ (∃ r, prngReg c r)) := by
  unfold Pipeline.ΦA
  rw [scopedRest0_eq]
  simp only [owns_whole]
  try rfl

/-- What is held before point `n`. -/
def inv (c : Dev nD) : (n : ℕ) → n ≤ cfg0.N → sProp 𝕄
  | 0, _ => Pipeline.ΦA spec0 c
  | n + 1, _ => held m c (n + 1)

/-- Before the first point the accumulators hold anything. -/
theorem inv_zero (c : Dev nD) (n : ℕ) (h : n ≤ cfg0.N) (hz : n = 0) : inv m c n h = Pipeline.ΦA spec0 c := by
  subst hz; rfl

/-- Later they hold what the tiles so far have left. -/
theorem inv_pos (c : Dev nD) (n : ℕ) (h : n ≤ cfg0.N) (hz : n ≠ 0) : inv m c n h = held m c n := by
  cases n with
  | zero => exact absurd rfl hz
  | succ n => rfl

/-- The result block: the final reduction of the accumulators after all tiles. -/
def result (c : Dev nD) : Vec F S32x1 .i32 :=
  k0_pay11 laneTable (accs (logits m c) 1984).1 (accs (logits m c) 1984).2

/-- What the blocks hold before and after each point. -/
def dats (_ : Fin 1) (c : Dev nD) : Dat τ (Elt F) Unit ℕ (UR sig nD τ) ℕ cfg0 c where
  A w := V m c (Pipeline.arrRef spec0 w)
  after w t := match w with
    | ⟨0, _⟩ => block m c t (fun _ => Scalar.ofBits .f32 0x00000000#32)
    | ⟨1, _⟩ => iblk m c 1 t
    | ⟨2, _⟩ => iblk m c 2 t
    | ⟨3, _⟩ => result m c
  Φ t := inv m c t.val (Nat.le_of_lt_succ t.isLt)
  q _ := fullShare
  owed _ := 0

/-- The arrays as the launch finds them. -/
theorem A_eq (c : Dev nD) (w : Fin cfg0.W) : (dats m 0 c).A w = V m c (Pipeline.arrRef spec0 w) := by
  dsimp only [dats]

/-- What is held before a point, by its number. -/
theorem inv_castSucc (c : Dev nD) (t : Fin cfg0.N) :
    (dats m 0 c).Φ t.castSucc = inv m c t.val (Nat.le_of_lt t.isLt) := by
  dsimp only [dats]; exact Pipeline.Dat.Φ_castSucc (inv m c) t

/-- The logits' block after a point. -/
theorem after0_0 (c : Dev nD) (t : Fin cfg0.N) :
    (dats m 0 c).after 0 t = block m c t (fun _ => Scalar.ofBits .f32 0x00000000#32) := by dsimp only [dats]
/-- The first table's block after a point. -/
theorem after0_1 (c : Dev nD) (t : Fin cfg0.N) : (dats m 0 c).after 1 t = iblk m c 1 t := by dsimp only [dats]
/-- The second table's block after a point. -/
theorem after0_2 (c : Dev nD) (t : Fin cfg0.N) : (dats m 0 c).after 2 t = iblk m c 2 t := by dsimp only [dats]
/-- The result block after the last point. -/
theorem after0_3 (c : Dev nD) (t : Fin cfg0.N) : (dats m 0 c).after 3 t = result m c := by dsimp only [dats]

/-- The logits' block before a point. -/
theorem before0_0 (c : Dev nD) (t : Fin cfg0.N) (d) : (dats m 0 c).before 0 t d = block m c t d := by
  unfold Dat.before; rw [if_pos (fetch0_0 t)]; rfl
/-- The first table's block before a point. -/
theorem before0_1 (c : Dev nD) (t : Fin cfg0.N) (d) : (dats m 0 c).before 1 t d = baseTable :=
  (before0_1_of m (dats m 0 c) (A_eq m c 1) (after0_1 m c) t d).trans (base_block m c t)
/-- The second table's block before a point. -/
theorem before0_2 (c : Dev nD) (t : Fin cfg0.N) (d) : (dats m 0 c).before 2 t d = laneTable :=
  (before0_2_of m (dats m 0 c) (A_eq m c 2) (after0_2 m c) t d).trans (lane_block m c t)

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (dats m 0 c).leavesExact 3 t)

/-- The part of the scores' block that a transfer moves, filled out by what the buffer held, is the block. -/
theorem refill (c : Dev nD) (t : Fin cfg0.N) (d) :
    win0_0.fill (grid0.coords t) d (win0_0.cut (grid0.coords t) ((dats m 0 c).after 0 t)) = block m c t d := by
  rw [after0_0]
  exact congrArg (win0_0.fill (grid0.coords t) d) (win0_0.cut_fill _ _ _)

set_option maxHeartbeats 1600000 in
/-- One point of the grid: from the blocks and accumulators before it to those after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = held m c (t.val + 1) from rfl, inv_castSucc]
  rw [after0_1, after0_2, base_block, lane_block]
  have hN : t.val < 31 := lt_of_lt_of_eq t.isLt grid_count
  by_cases hw : t.val < 30
  · have h2 := (whole_iff t).mpr hw
    have h3 : ¬k0_cond3 (grid0.coords t) = 1#1 := fun h => (last_iff t).mp h hw
    rw [Dat.leavesExact_idle (dats m 0 c) 3 t (result_idle t hw) (result_stays t hw)]
    by_cases hz : t.val = 0
    · rw [inv_zero m c _ _ hz, loose_eq]
      iintro ⟨⟨⟨HS0, HS1⟩, Hg⟩, Ho, ⟨%d0, H0⟩, ⟨%d1, H1⟩, ⟨%d2, H2⟩, ⟨%d3, H3⟩⟩
      iapply (body_first c (grid0.coords t) _ _ _ _ _ _ _ _ _ _ _ _ (block m c t d0) baseTable laneTable ((first_iff t).mpr hz) h2 h3 _ Set.univ _)
      isplitl [H0]; · iexact H0
      isplitl [H1]; · iexact H1
      isplitl [H2]; · iexact H2
      isplitl [H3]; · iexact H3
      isplitl [HS0]; · iexact HS0
      isplitl [HS1]; · iexact HS1
      have e := whole_accs m c t d0 h2 hw
      rw [show accs (logits m c) (64 * t.val) = start from by rw [hz]; exact (accs_start _).symm] at e
      rw [e]
      iintro ⟨H0, H1, H2, H3, HS0, HS1⟩
      unfold held
      isplitl [HS0 HS1 Hg]
      · isplitl [HS0 HS1]
        · isplitl [HS0]; · iexact HS0
          iexact HS1
        iexact Hg
      isplitl [Ho]; · iexact Ho
      isplitl [H0]; · iexists d0; rw [refill m c t d0]; iexact H0
      isplitl [H1]; · iexact H1
      isplitl [H2]; · iexact H2
      iexists _; iexact H3
    · rw [inv_pos m c _ _ hz]
      unfold held
      iintro ⟨⟨⟨HS0, HS1⟩, Hg⟩, Ho, ⟨%d0, H0⟩, ⟨%d1, H1⟩, ⟨%d2, H2⟩, ⟨%d3, H3⟩⟩
      iapply (body_middle c (grid0.coords t) _ _ _ _ _ _ _ _ _ _ _ _ (block m c t d0) baseTable laneTable
        (fun h => hz ((first_iff t).mp h)) h2 h3 _ (accs (logits m c) (64 * t.val)) Set.univ _)
      isplitl [H0]; · iexact H0
      isplitl [H1]; · iexact H1
      isplitl [H2]; · iexact H2
      isplitl [H3]; · iexact H3
      isplitl [HS0]; · iexact HS0
      isplitl [HS1]; · iexact HS1
      rw [whole_accs m c t d0 h2 hw]
      iintro ⟨H0, H1, H2, H3, HS0, HS1⟩
      isplitl [HS0 HS1 Hg]
      · isplitl [HS0 HS1]
        · isplitl [HS0]; · iexact HS0
          iexact HS1
        iexact Hg
      isplitl [Ho]; · iexact Ho
      isplitl [H0]; · iexists d0; rw [refill m c t d0]; iexact H0
      isplitl [H1]; · iexact H1
      isplitl [H2]; · iexact H2
      iexists _; iexact H3
  · have hz : t.val ≠ 0 := by omega
    have h2 : ¬k0_cond2 (grid0.coords t) = 1#1 := fun h => hw ((whole_iff t).mp h)
    have h3 := (last_iff t).mpr hw
    have e30 : t.val = 30 := by omega
    rw [show (dats m 0 c).leavesExact 3 t = owns (c : Thread nD τ) (st0_3 t) fullShare ((dats m 0 c).after 3 t) from by
      unfold Dat.leavesExact; rw [result_live t hw], after0_3]
    rw [inv_pos m c _ _ hz]
    unfold held result
    iintro ⟨⟨⟨HS0, HS1⟩, Hg⟩, Ho, ⟨%d0, H0⟩, ⟨%d1, H1⟩, ⟨%d2, H2⟩, ⟨%d3, H3⟩⟩
    iapply (body_last c (grid0.coords t) _ _ _ _ _ _ _ _ _ _ _ _ (block m c t d0) baseTable laneTable
      (fun h => hz ((first_iff t).mp h)) h2 h3 (accs (logits m c) (64 * t.val)) Set.univ _)
    isplitl [H0]; · iexact H0
    isplitl [H1]; · iexact H1
    isplitl [H2]; · iexact H2
    isplitl [H3]; · iexists _; iexact H3
    isplitl [HS0]; · iexact HS0
    isplitl [HS1]; · iexact HS1
    rw [edge_accs m c t d0 h3, e30]
    iintro ⟨H0, H1, H2, H3, HS0, HS1⟩
    isplitl [HS0 HS1 Hg]
    · isplitl [HS0 HS1]
      · isplitl [HS0]; · iexact HS0
        iexact HS1
      iexact Hg
    isplitl [Ho]; · iexact Ho
    isplitl [H0]; · iexists d0; rw [refill m c t d0]; iexact H0
    isplitl [H1]; · iexact H1
    isplitl [H2]; · iexact H2
    iexact H3

/-- The body that a point runs. -/
theorem defs₀_row (t : Fin cfg0.N) :
    defs₀ (F := F) .tc cfg0.body (cfg0.bodyArgs t (cfg0.slots t)) = bodyAt0 t := by
  unfold defs₀; rw [Defs.onTc_tc]

/-- Every point keeps what is held. -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## The launch -/

/-- What the launch allocates is what is held before the first point. -/
theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- What is held after the last point is given back. -/
theorem hout (c : Dev nD) : (dats m 0 c).Φ (Fin.last cfg0.N) ⊢ Pipeline.ΦA spec0 c := by
  rw [show (dats m 0 c).Φ (Fin.last cfg0.N) = inv m c cfg0.N le_rfl from rfl,
    inv_pos m c _ _ (by rw [grid_count]; decide), loose_eq]
  unfold held
  iintro ⟨⟨HS0, HS1⟩, Hg⟩
  isplitl [HS0 HS1]
  · isplitl [HS0]
    · iexists _; iexact HS0
    iexists _; iexact HS1
  iexact Hg

variable (ρ : Dev nD → PrngReg)

set_option backward.isDefEq.respectTransparency.types false in
set_option maxHeartbeats 800000 in
/-- Every execution of the launch ends with every array of the pipeline at what the proof data say, and every counter
    at zero. -/
theorem run_main : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the argument ends unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Gumbel
-- ==== Proof.Frames.lean ====
module

public import proofs.«01_k».proof.Proof.Same
public import proofs.«01_k».proof.Proof.Run
public import proofs.«01_k».proof.Proof.Gen.Kernel
public import proofs.«01_k».proof.Proof.Gen.ReferenceIdeal.Run
public import Idealize.ShloMosaic.Lib.Quiescent

@[expose] public section

/-! # The three programs' frames

The kernel's own follows from its idealization's, proved for any floats: at the machine's floats the two are the same
program. -/

noncomputable section

namespace Cert.Gumbel

open Idealize.ShloMosaic Idealize.SL.Sem

/-- The idealization runs, leaves its argument as it was and every counter at zero. -/
theorem kernel_ideal_frame : quiescent_KernelIdeal (hKernelIdeal := Cert.KernelIdeal.Gen.facts) :=
  fun m ρ _ => Cert.KernelIdeal.Gumbel.frame m ρ

/-- The kernel runs, leaves its argument as it was and every counter at zero. -/
theorem kernel_frame : quiescent_Kernel (hKernel := Cert.Kernel.Gen.facts) := fun m ρ _ => by
  have h := Cert.KernelIdeal.Gumbel.frame (F := Bits) m ρ
  have ed := defs_eq
  have em := main_eq
  rw [← ed, ← em] at h
  exact h

/-- The reference runs, leaves its argument as it was and every counter at zero. -/
theorem reference_frame : quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run m ρ)

end Cert.Gumbel
-- ==== Proof.Keeps.lean ====
module

public import proofs.«01_k».proof.Proof.Steps
public import Idealize.ShloMosaic.PureOps.Ideal

@[expose] public section

/-! # What a lane keeps is the first of its best scores -/

noncomputable section

namespace Cert.KernelIdeal.Gumbel

open Cert.KernelIdeal Cert.KernelIdeal.Gen Cert.Gumbel
open Idealize.ShloMosaic Idealize.ShloMosaic.ValueIdx

/-- The comparison of two scores is the order of the extended reals. -/
theorem ogt_iff (a b : Ideal .f32) : FloatOps.cmpf .ogt a b = 1#1 ↔ (b : EReal) < a := by
  show BitVec.ofBool (decide ((b : EReal) < a)) = 1#1 ↔ _
  by_cases h : (b : EReal) < a <;> simp [h]

/-- A lane's state `s` after `n` tiles of scores `v`: the score and the number of the first of the best tiles; a tile
with `ok` false holds no column of the array. -/
def Kept (v : ℕ → EReal) (ok : ℕ → Prop) (n : ℕ) (s : EReal × BitVec 32) : Prop :=
  ∃ t, t < n ∧ ok t ∧ s.2 = BitVec.ofNat 32 t ∧ s.1 = v t ∧ (∀ u, u < n → ok u → v u ≤ s.1) ∧ ∀ u, u < t → ok u → v u < s.1

/-- The score of tile `t` in lane `l`; −∞ past the array's end. -/
def tileScore (x : Vec Ideal S32x1000000 .f32) (r : Fin 32) (l : Fin 512) (t : ℕ) : EReal :=
  if h : t * 512 + l.val < 1000000 then scoreAt (F := Ideal) x r ⟨t * 512 + l.val, h⟩ else ⊥

/-- Inside the array a tile's score is the score of its column. -/
theorem tileScore_of (x : Vec Ideal S32x1000000 .f32) (r : Fin 32) (l : Fin 512) (t : ℕ) (h : t * 512 + l.val < 1000000) :
    tileScore x r l t = scoreAt (F := Ideal) x r ⟨t * 512 + l.val, h⟩ := dif_pos h

/-- One more tile. -/
theorem scan_step (x : Vec Ideal S32x1000000 .f32) (r : Fin 32) (l : Fin 512) (n : ℕ) (h : n * 512 + l.val < 1000000) :
    scan (F := Ideal) x r l (n + 1)
      = if (scan (F := Ideal) x r l n).1 < tileScore x r l n then (tileScore x r l n, BitVec.ofNat 32 n) else scan x r l n := by
  rw [scan_succ, dif_pos h, tileScore_of x r l n h]
  unfold keep
  exact if_congr (ogt_iff _ _) rfl rfl

/-- A tile past the end of the array changes nothing. -/
theorem scan_past (x : Vec Ideal S32x1000000 .f32) (r : Fin 32) (l : Fin 512) (n : ℕ) (h : ¬ n * 512 + l.val < 1000000) :
    scan (F := Ideal) x r l (n + 1) = scan x r l n := by
  rw [scan_succ, dif_neg h]

/-- After any number of tiles but none, a lane keeps the first of its best. -/
theorem scan_kept (x : Vec Ideal S32x1000000 .f32) (r : Fin 32) (l : Fin 512) (n : ℕ) :
    Kept (tileScore x r l) (fun t => t * 512 + l.val < 1000000) (n + 1) (scan (F := Ideal) x r l (n + 1)) := by
  have hl := l.isLt
  induction n with
  | zero =>
    have h0 : 0 * 512 + l.val < 1000000 := by omega
    have hb : (scan (F := Ideal) x r l 0).1 = (⊥ : EReal) := by
      show Ideal.ofBits .f32 0xFF800000#32 = ⊥
      simp [Ideal.ofBits, Ideal.ieee]
    rw [scan_step x r l 0 h0]
    refine ⟨0, Nat.one_pos, h0, ?_, ?_, fun u hu _ => ?_, fun u hu => absurd hu (Nat.not_lt_zero u)⟩
    · split <;> rfl
    · split
      · rfl
      · rename_i g; rw [hb] at g ⊢; exact (not_bot_lt_iff.mp g).symm
    · obtain rfl : u = 0 := by omega
      split
      · exact le_rfl
      · rename_i g; exact not_lt.mp g
  | succ n ih =>
    obtain ⟨t, ht, hok, h2, h1, hle, hlt⟩ := ih
    by_cases hn : (n + 1) * 512 + l.val < 1000000
    · rw [scan_step x r l (n + 1) hn]
      split
      · rename_i g
        refine ⟨n + 1, by omega, hn, rfl, rfl, fun u hu hk => ?_, fun u hu hk => lt_of_le_of_lt (hle u hu hk) g⟩
        rcases Nat.lt_succ_iff_lt_or_eq.mp hu with hu | rfl
        · exact le_of_lt (lt_of_le_of_lt (hle u hu hk) g)
        · exact le_rfl
      · rename_i g
        refine ⟨t, by omega, hok, h2, h1, fun u hu hk => ?_, hlt⟩
        rcases Nat.lt_succ_iff_lt_or_eq.mp hu with hu | rfl
        · exact hle u hu hk
        · exact not_lt.mp g
    · rw [scan_past x r l (n + 1) hn]
      refine ⟨t, by omega, hok, h2, h1, fun u hu hk => ?_, hlt⟩
      rcases Nat.lt_succ_iff_lt_or_eq.mp hu with hu | rfl
      · exact hle u hu hk
      · exact absurd hk hn

end Cert.KernelIdeal.Gumbel
-- ==== Proof.First.lean ====
module

public import Idealize.ShloMosaic.PureOps
public import Idealize.ShloMosaic.PureOps.Ideal
public import Idealize.ShloMosaic.PureOps.Reduce
public import Mathlib.Data.Finset.Fold

@[expose] public section

/-! # The first position of the largest value, found in one pass or lane by lane

`N` values are dealt out to `W` lanes, value `n` to lane `n % W`. Each lane knows the first position of its own largest
value. The least of these positions, over the lanes whose value is the largest of all, is the first position of the
largest value. -/

noncomputable section

namespace Cert.Gumbel

open Idealize.ShloMosaic

/-- Folding the signed minimum of words is folding the minimum of the integers they denote. -/
theorem toInt_fold_minsi {ι : Type} (s : Finset ι) (b : BitVec 32) (f : ι → BitVec 32) :
    (s.fold IntOp.minsi b f).toInt = s.fold min b.toInt fun i => (f i).toInt := by
  refine (Finset.fold_hom (op := IntOp.minsi) (op' := min) (m := BitVec.toInt) fun x y => ?_).symm
  unfold IntOp.minsi
  rw [BitVec.slt]
  split
  · rename_i h; exact (min_eq_left (le_of_lt (of_decide_eq_true h))).symm
  · rename_i h; exact (min_eq_right (not_lt.mp fun g => h (decide_eq_true g))).symm

variable {N W : ℕ}

/-- The largest of the values. -/
def top {ι : Type} [Fintype ι] (S : ι → EReal) : EReal := Finset.univ.fold max ⊥ S

/-- Every score is at most the largest. -/
theorem le_top {ι : Type} [Fintype ι] (S : ι → EReal) (i : ι) : S i ≤ top S :=
  (Finset.le_fold_max _).mpr (.inr ⟨i, Finset.mem_univ i, le_rfl⟩)

/-- The largest score is at most any bound of the scores. -/
theorem top_le {ι : Type} [Fintype ι] (S : ι → EReal) (c : EReal) (h : ∀ i, S i ≤ c) : top S ≤ c :=
  (Finset.fold_max_le _).mpr ⟨bot_le, fun i _ => h i⟩

/-- The largest value has a first position. -/
theorem exists_first (S : Fin N → EReal) (hN : 0 < N) : ∃ p, S p = top S ∧ ∀ q, S q = top S → p ≤ q := by
  obtain ⟨a, -, ha⟩ := Finset.exists_max_image Finset.univ S ⟨⟨0, hN⟩, Finset.mem_univ _⟩
  have e : S a = top S := le_antisymm (le_top S a) (top_le S _ fun i => ha i (Finset.mem_univ i))
  obtain ⟨p, hp, hq⟩ := Finset.exists_min_image (Finset.univ.filter fun i => S i = top S) id
    ⟨a, Finset.mem_filter.mpr ⟨Finset.mem_univ a, e⟩⟩
  exact ⟨p, (Finset.mem_filter.mp hp).2, fun q h => hq q (Finset.mem_filter.mpr ⟨Finset.mem_univ q, h⟩)⟩

/-- The least of the positions that hold the largest value is the first. -/
theorem least_position (S : Fin N → EReal) (p : Fin N) (hp : S p = top S) (hq : ∀ q, S q = top S → p ≤ q)
    (big else' : ℤ) (hbig : N ≤ big) (helse : N ≤ else') :
    (Finset.univ.fold min big fun q : Fin N => if S q = top S then (q.val : ℤ) else else') = p.val := by
  have := p.isLt
  refine le_antisymm ((Finset.fold_min_le _).mpr (.inr ⟨p, Finset.mem_univ p, ?_⟩)) ((Finset.le_fold_min _).mpr ⟨by omega, fun q _ => ?_⟩)
  · rw [if_pos hp]
  · split
    · rename_i h; exact Int.ofNat_le.mpr (hq q h)
    · omega

/-- The least of the lanes' positions, over the lanes that hold the largest value, is the first. -/
theorem least_lane (S : Fin N → EReal) (p : Fin N) (hp : S p = top S) (hq : ∀ q, S q = top S → p ≤ q) (hW : 0 < W)
    (A : Fin W → EReal) (P : Fin W → Fin N) (hA : ∀ l, A l = S (P l))
    (hmax : ∀ (l : Fin W) (q : Fin N), q.val % W = l.val → S q ≤ A l)
    (hfirst : ∀ (l : Fin W) (q : Fin N), q.val % W = l.val → q < P l → S q < A l)
    (big else' : ℤ) (hbig : N ≤ big) (helse : N ≤ else') :
    (Finset.univ.fold min big fun l : Fin W => if A l = top A then ((P l).val : ℤ) else else') = p.val := by
  have := p.isLt
  let l : Fin W := ⟨p.val % W, Nat.mod_lt _ hW⟩
  have hl : A l = top S := le_antisymm (hA l ▸ le_top S (P l)) (hp ▸ hmax l p rfl)
  have e : top A = top S := le_antisymm (top_le A _ fun i => hA i ▸ le_top S (P i)) (hl ▸ le_top A l)
  have hP : P l = p := by
    refine le_antisymm (not_lt.mp fun g => ?_) (hq (P l) ((hA l).symm.trans hl))
    exact absurd (hfirst l p rfl g) (by rw [hl, hp]; exact lt_irrefl _)
  rw [e]
  refine le_antisymm ((Finset.fold_min_le _).mpr (.inr ⟨l, Finset.mem_univ l, ?_⟩)) ((Finset.le_fold_min _).mpr ⟨by omega, fun i _ => ?_⟩)
  · rw [if_pos hl, hP]
  · split
    · rename_i h; exact Int.ofNat_le.mpr (hq (P i) ((hA i).symm.trans h))
    · omega

end Cert.Gumbel
-- ==== Proof.Words.lean ====
module

public import proofs.«01_k».proof.Proof.Gen.ReferenceIdeal.Run
public import proofs.«01_k».proof.Proof.Cipher

@[expose] public section

/-! # The reference's words are the cipher's

First the key, a pair of words that is the same for every element, then the word drawn for each element. -/

noncomputable section

namespace Cert.ReferenceIdeal.Gumbel

open Cert.ReferenceIdeal Cert.ReferenceIdeal.Gen Cert.ReferenceIdeal.Value Cert.Gumbel
open Idealize.ShloMosaic Idealize.ShloMosaic.TcCoe Idealize.ShloMosaic.StableHlo

variable {F : FTy → Type} [FloatOps F] (V : Valuation τ sig (Elt F))

/-- A word that is the same for every element. -/
abbrev one (x : IVec S_ 32) (z : S_.Idx) : BitVec 32 := x z

/-- An element's word. -/
abbrev each (x : IVec S32x1000000 32) (j : S32x1000000.Idx) : BitVec 32 := x j

/-- A word that is the same for every element, at an element. -/
abbrev spread (x : IVec S_ 32) (j : S32x1000000.Idx) : BitVec 32 := broadcastInDim S32x1000000 ![] bcast_S_S32x1000000 x j

/-! ## The key -/

/-- The key's first group of rounds. -/
theorem key_first (z : S_.Idx) :
    keyed 0#32 (one (res_main_v1 V) z + 1#32) (turnsA (0#32 + 0#32, one (res_main_v3 V) z)) = (one (res_main_v19 V) z + 0#32, one (res_main_v26 V) z) := rfl

/-- The key's second group of rounds. -/
theorem key_second (z : S_.Idx) :
    keyed (one (res_main_v1 V) z) (0#32 + 2#32) (turnsB (one (res_main_v19 V) z + 0#32, one (res_main_v26 V) z))
      = (one (res_main_v42 V) z + one (res_main_v1 V) z, one (res_main_v49 V) z) := rfl

/-- The key's third group of rounds. -/
theorem key_third (z : S_.Idx) :
    keyed 0#32 (0#32 + 3#32) (turnsA (one (res_main_v42 V) z + one (res_main_v1 V) z, one (res_main_v49 V) z))
      = (one (res_main_v65 V) z + 0#32, one (res_main_v72 V) z) := rfl

/-- The key's fourth group of rounds. -/
theorem key_fourth (z : S_.Idx) :
    keyed 0#32 (one (res_main_v1 V) z + 4#32) (turnsB (one (res_main_v65 V) z + 0#32, one (res_main_v72 V) z))
      = (one (res_main_v88 V) z + 0#32, one (res_main_v95 V) z) := rfl

/-- The key's fifth group of rounds. -/
theorem key_fifth (z : S_.Idx) :
    keyed (one (res_main_v1 V) z) (0#32 + 5#32) (turnsA (one (res_main_v88 V) z + 0#32, one (res_main_v95 V) z))
      = (one (res_main_v116 V) z, one (res_main_v118 V) z) := rfl

/-- The key is the cipher of the counter (0, 1) under the key (0, 0). -/
theorem key_rounds (z : S_.Idx) : (one (res_main_v116 V) z, one (res_main_v118 V) z) = rounds 0#32 0#32 (one (res_main_v1 V) z) (0#32 + 0#32, one (res_main_v3 V) z) := by
  unfold rounds
  rw [key_first, key_second, key_third, key_fourth, key_fifth]

/-- The cipher of the pair (0, 1) under the key (0, 0) is the kernel's key. -/
theorem key_word : rounds 0#32 0#32 466688986#32 (0#32, 1#32) = (key0, key1) := by decide +kernel

/-- The reference's key is the kernel's. -/
theorem key_pair (z : S_.Idx) : (one (res_main_v116 V) z, one (res_main_v118 V) z) = (key0, key1) := by
  rw [key_rounds, show one (res_main_v1 V) z = 466688986#32 from by show (0#32 ^^^ 0#32) ^^^ 466688986#32 = _; decide,
    show one (res_main_v3 V) z = 1#32 from by show 1#32 + 0#32 = _; decide]
  exact key_word

/-- Its first word. -/
theorem key0_eq (z : S_.Idx) : one (res_main_v116 V) z = key0 := congrArg Prod.fst (key_pair V z)
/-- Its second word. -/
theorem key1_eq (z : S_.Idx) : one (res_main_v118 V) z = key1 := congrArg Prod.snd (key_pair V z)
/-- Its third word. -/
theorem key2_eq (z : S_.Idx) : one (res_main_v126 V) z = key2 := by
  show (one (res_main_v116 V) z ^^^ one (res_main_v118 V) z) ^^^ 466688986#32 = key2
  rw [key0_eq, key1_eq]
  decide

/-! ## The word of an element -/

/-- An element's first group of rounds. -/
theorem word_first (j : S32x1000000.Idx) :
    keyed (spread (res_main_v118 V) j) (spread (res_main_v126 V) j + 1#32)
        (turnsA (0#32 + spread (res_main_v116 V) j, each (res_main_v130 V) j))
      = (each (res_main_v152 V) j + spread (res_main_v118 V) j, each (res_main_v163 V) j) := rfl

/-- Its second group of rounds. -/
theorem word_second (j : S32x1000000.Idx) :
    keyed (spread (res_main_v126 V) j) (spread (res_main_v116 V) j + 2#32)
        (turnsB (each (res_main_v152 V) j + spread (res_main_v118 V) j, each (res_main_v163 V) j))
      = (each (res_main_v185 V) j + spread (res_main_v126 V) j, each (res_main_v196 V) j) := rfl

/-- Its third group of rounds. -/
theorem word_third (j : S32x1000000.Idx) :
    keyed (spread (res_main_v116 V) j) (spread (res_main_v118 V) j + 3#32)
        (turnsA (each (res_main_v185 V) j + spread (res_main_v126 V) j, each (res_main_v196 V) j))
      = (each (res_main_v218 V) j + spread (res_main_v116 V) j, each (res_main_v229 V) j) := rfl

/-- Its fourth group of rounds. -/
theorem word_fourth (j : S32x1000000.Idx) :
    keyed (spread (res_main_v118 V) j) (spread (res_main_v126 V) j + 4#32)
        (turnsB (each (res_main_v218 V) j + spread (res_main_v116 V) j, each (res_main_v229 V) j))
      = (each (res_main_v251 V) j + spread (res_main_v118 V) j, each (res_main_v262 V) j) := rfl

/-- The element's two words after the last round and the last key words. -/
def lastPair (j : S32x1000000.Idx) : Pair :=
  keyed (spread (res_main_v126 V) j) (spread (res_main_v116 V) j + 5#32)
    (turnsA (each (res_main_v251 V) j + spread (res_main_v118 V) j, each (res_main_v262 V) j))

/-- The scores, from the last pair of words. -/
theorem score_words (j : S32x1000000.Idx) :
    res_main_v314 V j
      = FloatOps.addf (V (Proc.devRef .tc main_arg0) j) (FloatOps.hostNegf (FloatOps.hostUnary .log (FloatOps.hostNegf (FloatOps.hostUnary .log
          (FloatOps.maximumf (Scalar.ofBits .f32 0x1E3CE508#32)
            (FloatOps.addf (FloatOps.mulf (unit ((lastPair V j).1 ^^^ (lastPair V j).2)) (Scalar.ofBits .f32 0x3F800000#32))
              (Scalar.ofBits .f32 0x1E3CE508#32))))))) := rfl

/-- The last pair is the cipher's under the key, of the element's flat position. -/
theorem lastPair_eq (j : S32x1000000.Idx) :
    lastPair V j = rounds key0 key1 key2
      (key0, (BitVec.ofNat 32 (j 0).val * 1000000#32 + BitVec.ofNat 32 (j 1).val) + key1) := by
  have e : lastPair V j = rounds (spread (res_main_v116 V) j) (spread (res_main_v118 V) j) (spread (res_main_v126 V) j)
      (0#32 + spread (res_main_v116 V) j, each (res_main_v130 V) j) := by
    unfold rounds
    rw [word_first, word_second, word_third, word_fourth]
    rfl
  rw [e, show each (res_main_v130 V) j = (BitVec.ofNat 32 (j 0).val * 1000000#32 + BitVec.ofNat 32 (j 1).val) + spread (res_main_v118 V) j from rfl,
    show spread (res_main_v116 V) j = key0 from key0_eq V _, show spread (res_main_v118 V) j = key1 from key1_eq V _,
    show spread (res_main_v126 V) j = key2 from key2_eq V _]
  rw [show 0#32 + key0 = key0 from by decide]

end Cert.ReferenceIdeal.Gumbel
-- ==== Proof.Score.lean ====
module

public import proofs.«01_k».proof.Proof.Words
public import proofs.«01_k».proof.Proof.Steps
public import Idealize.ShloMosaic.PureOps.Ideal

@[expose] public section

/-! # Over the extended reals, the reference's scores are the kernel's

The reference scales its float in [0, 1) by 1, adds 1e-20 and takes the larger of the sum and 1e-20: since the float is
not negative, that is the sum, which is what the kernel takes. -/

noncomputable section

namespace Cert.Gumbel

open Idealize.ShloMosaic Idealize.ShloMosaic.ValueIdx

/-- The word whose top 23 bits are a mantissa under the exponent of 1. -/
theorem mantissa_toNat (b : BitVec 32) : ((b >>> 9) ||| 1065353216#32).toNat = 1065353216 + b.toNat / 512 := by
  have h : b.toNat / 512 < 2 ^ 23 := by have := b.isLt; omega
  rw [BitVec.toNat_or, BitVec.toNat_ushiftRight, Nat.shiftRight_eq_div_pow, Nat.or_comm]
  exact (Nat.two_pow_add_eq_or_of_lt h 127).symm

/-- That word is a float of at least 1. -/
theorem one_le_mantissa (b : BitVec 32) : (1 : EReal) ≤ Ideal.ofBits .f32 ((b >>> 9) ||| 1065353216#32) := by
  generalize hw : (b >>> 9) ||| 1065353216#32 = w
  have hn : w.toNat = 1065353216 + b.toNat / 512 := hw ▸ mantissa_toNat b
  have hb : b.toNat / 512 < 8388608 := by have := b.isLt; omega
  have hs : w.extractLsb' (8 + 23) 1 = 0#1 := by
    apply BitVec.eq_of_toNat_eq
    rw [BitVec.extractLsb'_toNat, Nat.shiftRight_eq_div_pow, hn]
    show _ = 0
    omega
  have he : (w.extractLsb' 23 8).toNat = 127 := by
    rw [BitVec.extractLsb'_toNat, Nat.shiftRight_eq_div_pow, hn]
    omega
  show _ ≤ Ideal.ieee 8 23 w
  unfold Ideal.ieee
  simp only [hs, he]
  rw [if_neg (by decide), if_neg (by decide), if_neg (by decide)]
  rw [← EReal.coe_one, EReal.coe_le_coe_iff]
  have e : ((127 : ℕ) : ℤ) - (2 ^ (8 - 1) - 1) - (23 : ℕ) = -23 := by norm_num
  rw [e]
  have hf : (0 : ℝ) ≤ ((w.extractLsb' 0 23).toNat : ℝ) := Nat.cast_nonneg _
  push_cast
  have h2 : (2 : ℝ) ^ (-23 : ℤ) = 1 / 8388608 := by norm_num
  rw [h2]
  linarith

/-- The float word of 1. -/
theorem word_one : Ideal.ofBits .f32 0x3F800000#32 = 1 := by simp [Ideal.ofBits, Ideal.ieee, -EReal.coe_mul]; norm_num
/-- The float word of 0. -/
theorem word_zero : Ideal.ofBits .f32 0x00000000#32 = 0 := by simp [Ideal.ofBits, Ideal.ieee]
/-- The float word of −∞. -/
theorem word_bot : Ideal.ofBits .f32 0xFF800000#32 = ⊥ := by simp [Ideal.ofBits, Ideal.ieee]

/-- The float in [0, 1) that a word gives is not negative. -/
theorem unit_nonneg (b : BitVec 32) : (0 : EReal) ≤ unit (F := Ideal) b := by
  show (0 : EReal) ≤ (Ideal.ofBits .f32 ((b >>> 9) ||| 1065353216#32) : EReal) - (Ideal.ofBits .f32 0x3F800000#32 : EReal)
  rw [word_one]
  have h := EReal.sub_le_sub (one_le_mantissa b) (le_refl (1 : EReal))
  have e : (1 : EReal) - 1 = 0 := by rw [← EReal.coe_one, ← EReal.coe_sub]; simp
  rwa [e] at h

/-- The kernel's noise written out. -/
theorem noiseOf_unfold {F : FTy → Type} [FloatOps F] (w : BitVec 32) : noiseOf (F := F) w
    = FloatOps.log (FloatOps.subf (Scalar.ofBits .f32 0x00000000#32)
        (FloatOps.log (FloatOps.addf (unit (drawn w)) (Scalar.ofBits .f32 0x1E3CE508#32)))) := rfl

/-- The reference's way to the noise and the kernel's, from the word drawn. -/
theorem noise_eq (b : BitVec 32) :
    FloatOps.hostNegf (F := Ideal) (φ := .f32) (FloatOps.hostUnary .log (FloatOps.hostNegf (FloatOps.hostUnary .log
        (FloatOps.maximumf (Scalar.ofBits .f32 0x1E3CE508#32)
          (FloatOps.addf (FloatOps.mulf (unit b) (Scalar.ofBits .f32 0x3F800000#32)) (Scalar.ofBits .f32 0x1E3CE508#32))))))
      = FloatOps.subf (Scalar.ofBits .f32 0x00000000#32) (FloatOps.log (FloatOps.subf (Scalar.ofBits .f32 0x00000000#32)
          (FloatOps.log (FloatOps.addf (unit b) (Scalar.ofBits .f32 0x1E3CE508#32))))) := by
  have h := unit_nonneg b
  have h0 : (Scalar.ofBits .f32 0x00000000#32 : Ideal .f32) = (0 : EReal) := word_zero
  have h1 : (Scalar.ofBits .f32 0x3F800000#32 : Ideal .f32) = (1 : EReal) := word_one
  rw [h0, h1]
  generalize (Scalar.ofBits .f32 0x1E3CE508#32 : Ideal .f32) = low
  revert h
  generalize unit (F := Ideal) b = u
  intro h
  simp only [Ideal.hostNegf_def, Ideal.hostUnary_log_def, Ideal.maximumf_def, Ideal.addf_def, Ideal.mulf_def,
    Ideal.subf_def, Ideal.log_def, Ideal.negf_def]
  rw [mul_one, max_eq_right (le_add_of_nonneg_left h), sub_eq_add_neg, sub_eq_add_neg, zero_add, zero_add]

/-- The reference's draw from a word gives the kernel's noise. -/
theorem noise_of_word (w : BitVec 32) :
    FloatOps.hostNegf (F := Ideal) (φ := .f32) (FloatOps.hostUnary .log (FloatOps.hostNegf (FloatOps.hostUnary .log
        (FloatOps.maximumf (Scalar.ofBits .f32 0x1E3CE508#32)
          (FloatOps.addf (FloatOps.mulf (unit (drawn w)) (Scalar.ofBits .f32 0x3F800000#32)) (Scalar.ofBits .f32 0x1E3CE508#32))))))
      = FloatOps.subf (Scalar.ofBits .f32 0x00000000#32) (noiseOf w) :=
  (noise_eq (drawn w)).trans (congrArg _ (noiseOf_unfold w).symm)

end Cert.Gumbel

namespace Cert.ReferenceIdeal.Gumbel

open Cert.ReferenceIdeal Cert.ReferenceIdeal.Gen Cert.ReferenceIdeal.Value Cert.Gumbel
open Idealize.ShloMosaic Idealize.ShloMosaic.TcCoe Idealize.ShloMosaic.StableHlo Idealize.ShloMosaic.ValueIdx

variable (V : Valuation τ sig (Elt Ideal))

/-- The reference's position and the kernel's counter agree. -/
theorem counter_eq (r col : ℕ) :
    (BitVec.ofNat 32 r * 1000000#32 + BitVec.ofNat 32 col) + key1 = BitVec.ofNat 32 (r * 1000000 + col + 3453687069) := by
  rw [BitVec.ofNat_add, BitVec.ofNat_add, BitVec.ofNat_mul]
  rfl

/-- The word drawn at a row and a column. -/
theorem drawn_at (r : Fin 32) (col : Fin 1000000) :
    (lastPair V (ix2 r col)).1 ^^^ (lastPair V (ix2 r col)).2
      = drawn (BitVec.ofNat 32 (r.val * 1000000 + col.val + 3453687069)) := by
  rw [lastPair_eq, show ((ix2 r col : S32x1000000.Idx) 0).val = r.val from rfl,
    show ((ix2 r col : S32x1000000.Idx) 1).val = col.val from rfl, counter_eq]
  unfold drawn
  rfl

/-- The reference's score at a row and a column. -/
theorem score_at (r : Fin 32) (col : Fin 1000000) :
    res_main_v314 V (ix2 r col) = Cert.KernelIdeal.Gumbel.scoreAt (F := Ideal) (V (Proc.devRef .tc main_arg0)) r col := by
  rw [score_words, drawn_at, noise_of_word]
  rfl

end Cert.ReferenceIdeal.Gumbel
-- ==== Proof.Answer.lean ====
module

public import proofs.«01_k».proof.Proof.Keeps
public import proofs.«01_k».proof.Proof.First
public import proofs.«01_k».proof.Proof.Score
public import Idealize.ShloMosaic.Lib.Pointwise

@[expose] public section

/-! # Both programs give the first position of the row's largest score -/

noncomputable section

namespace Cert.KernelIdeal.Gumbel

open Cert.KernelIdeal Cert.KernelIdeal.Gen Cert.Gumbel
open Idealize.ShloMosaic

/-- The kernel's last reduction, read at a row: the least position among the lanes that hold the row's largest score. -/
theorem kernel_fold (A : FVec Ideal S32x512 .f32) (T : IVec S32x512 32) (r : Fin 32) :
    k0_pay11 (F := Ideal) laneTable A T (ix2 r 0)
      = (Finset.univ : Finset (Fin 512)).fold IntOp.minsi 2147483647#32 fun l =>
          if (A (ix2 r l) : EReal) = top (fun k : Fin 512 => A (ix2 r k)) then T (ix2 r l) * 512#32 + BitVec.ofNat 32 l.val
          else 1073741824#32 := by
  simp only [k0_pay11, pointwise, word_bot]
  rfl

end Cert.KernelIdeal.Gumbel

namespace Cert.ReferenceIdeal.Gumbel

open Cert.ReferenceIdeal Cert.ReferenceIdeal.Gen Cert.ReferenceIdeal.Value Cert.Gumbel
open Idealize.ShloMosaic Idealize.ShloMosaic.TcCoe Idealize.ShloMosaic.StableHlo

/-- The reference's last reduction, read at a row: the least position that holds the row's largest score. -/
theorem reference_fold (S : FVec Ideal S32x1000000 .f32) (r : Fin 32) :
    Host.reduce IntOp.minsi (select (cmpf .oeq S (broadcastInDim S32x1000000 ![0, 1] bcast_S32x1_S32x1000000_0_1 (broadcastInDim S32x1 ![0] bcast_S32_S32x1_0 (Host.reduce FloatOps.maximumf S (constant S_ .f32 0xFF800000#32) reducesTo_S32x1000000_S32_d1 h_S_)))) (iotaInDim S32x1000000 32 1) (broadcastInDim S32x1000000 ![] bcast_S_S32x1000000 (id (constantI S_ 32 1000000#32)))) (constantI S_ 32 2147483647#32) reducesTo_S32x1000000_S32_d1 h_S_ (ix1 r)
      = (Finset.univ : Finset (Fin 1000000)).fold IntOp.minsi 2147483647#32 fun q =>
          if (S (ix2 r q) : EReal) = top (fun k : Fin 1000000 => S (ix2 r k)) then BitVec.ofNat 32 q.val else 1000000#32 := by
  simp only [pointwise, word_bot]
  rfl

end Cert.ReferenceIdeal.Gumbel

namespace Cert.Gumbel

open Idealize.ShloMosaic Cert.KernelIdeal Cert.KernelIdeal.Gen Cert.KernelIdeal.Gumbel

/-- A word made from a small number is that number. -/
theorem toInt_ofNat (n : ℕ) (h : n < 2 ^ 31) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

/-- The scores of a row. -/
def rowScores (x : Vec Ideal S32x1000000 .f32) (r : Fin 32) (q : Fin 1000000) : EReal := scoreAt (F := Ideal) x r q

/-- Each lane's best score is at a position of that lane, the first of the lane's best. -/
theorem lane_best (x : Vec Ideal S32x1000000 .f32) (r : Fin 32) (l : Fin 512) : ∃ P : Fin 1000000,
    (scan (F := Ideal) x r l 1984).2 * 512#32 + BitVec.ofNat 32 l.val = BitVec.ofNat 32 P.val
      ∧ (scan (F := Ideal) x r l 1984).1 = rowScores x r P
      ∧ (∀ q : Fin 1000000, q.val % 512 = l.val → rowScores x r q ≤ (scan (F := Ideal) x r l 1984).1)
      ∧ ∀ q : Fin 1000000, q.val % 512 = l.val → q < P → rowScores x r q < (scan (F := Ideal) x r l 1984).1 := by
  obtain ⟨t, -, hok, h2, h1, hle, hlt⟩ := scan_kept x r l 1983
  have hcol : ∀ q : Fin 1000000, q.val % 512 = l.val →
      q.val / 512 * 512 + l.val < 1000000 ∧ rowScores x r q = tileScore x r l (q.val / 512) := by
    intro q hq
    have e : q.val / 512 * 512 + l.val = q.val := by omega
    have h : q.val / 512 * 512 + l.val < 1000000 := by rw [e]; exact q.isLt
    refine ⟨h, ?_⟩
    rw [tileScore_of x r l _ h]
    exact congrArg (rowScores x r) (Fin.ext e.symm)
  refine ⟨⟨t * 512 + l.val, hok⟩, ?_, ?_, fun q hq => ?_, fun q hq hp => ?_⟩
  · rw [h2, BitVec.ofNat_add, BitVec.ofNat_mul]
  · exact h1.trans (tileScore_of x r l t hok)
  · rw [(hcol q hq).2]
    have := q.isLt
    exact hle _ (by omega) (hcol q hq).1
  · rw [(hcol q hq).2]
    have hp' : q.val < t * 512 + l.val := hp
    exact hlt _ (by omega) (hcol q hq).1

/-- The kernel's answer for a row is the first position of the largest score. -/
theorem kernel_first (x : Vec Ideal S32x1000000 .f32) (r : Fin 32) (p : Fin 1000000)
    (hp : rowScores x r p = top (rowScores x r)) (hq : ∀ q, rowScores x r q = top (rowScores x r) → p ≤ q) :
    (k0_pay11 (F := Ideal) laneTable (accs x 1984).1 (accs x 1984).2 (ix2 r 0)).toInt = p.val := by
  choose P hT hA hmax hfirst using lane_best x r
  rw [kernel_fold, toInt_fold_minsi]
  refine Eq.trans ?_ (least_lane (rowScores x r) p hp hq (by decide : 0 < 512) (fun l => (scan (F := Ideal) x r l 1984).1) P
    hA hmax hfirst 2147483647 1073741824 (by norm_num) (by norm_num))
  refine congrArg (fun f => Finset.fold min _ f Finset.univ) (funext fun l => ?_)
  show BitVec.toInt (if (scan (F := Ideal) x r l 1984).1 = top (fun k : Fin 512 => (scan (F := Ideal) x r k 1984).1)
    then (scan (F := Ideal) x r l 1984).2 * 512#32 + BitVec.ofNat 32 l.val else 1073741824#32) = _
  rw [hT l, apply_ite BitVec.toInt, toInt_ofNat _ (by have := (P l).isLt; omega)]
  rfl

end Cert.Gumbel

namespace Cert.ReferenceIdeal.Gumbel

open Cert.ReferenceIdeal Cert.ReferenceIdeal.Gen Cert.ReferenceIdeal.Value Cert.Gumbel
open Idealize.ShloMosaic Idealize.ShloMosaic.TcCoe Idealize.ShloMosaic.StableHlo

/-- The first position of each row's largest score, as the reference computes it. -/
def firstBest (S : FVec Ideal S32x1000000 .f32) : IVec S32 32 :=
  Host.reduce IntOp.minsi (select (cmpf .oeq S (broadcastInDim S32x1000000 ![0, 1] bcast_S32x1_S32x1000000_0_1 (broadcastInDim S32x1 ![0] bcast_S32_S32x1_0 (Host.reduce FloatOps.maximumf S (constant S_ .f32 0xFF800000#32) reducesTo_S32x1000000_S32_d1 h_S_)))) (iotaInDim S32x1000000 32 1) (broadcastInDim S32x1000000 ![] bcast_S_S32x1000000 (id (constantI S_ 32 1000000#32)))) (constantI S_ 32 2147483647#32) reducesTo_S32x1000000_S32_d1 h_S_

/-- The reference's answer is the first position of the row's largest score. -/
theorem reference_first (S : FVec Ideal S32x1000000 .f32) (r : Fin 32) (p : Fin 1000000)
    (hp : S (ix2 r p) = top (fun q : Fin 1000000 => S (ix2 r q)))
    (hq : ∀ q, S (ix2 r q) = top (fun q : Fin 1000000 => S (ix2 r q)) → p ≤ q) :
    (firstBest S (ix1 r)).toInt = p.val := by
  unfold firstBest
  rw [reference_fold, toInt_fold_minsi]
  refine Eq.trans ?_ (least_position (fun q : Fin 1000000 => S (ix2 r q)) p hp hq 2147483647 1000000 (by norm_num) (by norm_num))
  refine congrArg (fun f => Finset.fold min _ f Finset.univ) (funext fun q => ?_)
  rw [apply_ite BitVec.toInt, toInt_ofNat _ (by have := q.isLt; omega)]
  rfl

/-- The two programs' answers, row by row. -/
theorem answers_eq (V : Valuation τ sig (Elt Ideal)) (r : Fin 32) :
    Cert.KernelIdeal.Gen.k0_pay11 (F := Ideal) Cert.KernelIdeal.Gumbel.laneTable
        (Cert.KernelIdeal.Gumbel.accs (V (Proc.devRef .tc main_arg0)) 1984).1
        (Cert.KernelIdeal.Gumbel.accs (V (Proc.devRef .tc main_arg0)) 1984).2 (ix2 r 0)
      = firstBest (res_main_v314 V) (ix1 r) := by
  have e : ∀ q : Fin 1000000, res_main_v314 V (ix2 r q) = rowScores (V (Proc.devRef .tc main_arg0)) r q := score_at V r
  have e' : (fun q : Fin 1000000 => res_main_v314 V (ix2 r q)) = rowScores (V (Proc.devRef .tc main_arg0)) r := funext e
  obtain ⟨p, hp, hq⟩ := exists_first (rowScores (V (Proc.devRef .tc main_arg0)) r) (by norm_num)
  apply BitVec.eq_of_toInt_eq
  rw [kernel_first _ r p hp hq]
  refine (reference_first (res_main_v314 V) r p ?_ ?_).symm
  · rw [e p]; exact hp.trans (congrArg top e'.symm)
  · intro q h
    rw [e q] at h
    exact hq q (h.trans (congrArg top e'))

end Cert.ReferenceIdeal.Gumbel
-- ==== Proof.Returned.lean ====
module

public import proofs.«01_k».proof.Proof.Run

@[expose] public section

/-! # What the kernel's run returns

The last point writes the result block back, which is the whole result array; the host then drops its second axis. -/

noncomputable section

namespace Cert.KernelIdeal.Gumbel

open Cert.KernelIdeal Cert.KernelIdeal.Gen Cert.Gumbel
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F] (m : (ℓ : Loc nD τ sig) → Buf (Elt F) ℓ) (ρ : Dev nD → PrngReg)

/-- The result's one block is the whole array. -/
theorem block_whole (t : Fin cfg0.N) (j : S32x1.Idx) : ((cfg0.win 3).blk t).view.emb j = j := by
  funext a; apply Fin.ext
  match a with
  | ⟨0, _⟩ => show win0_3.index t 0 * 32 + 1 * (j 0).val = (j 0).val; rw [show win0_3.index t 0 = 0 from rfl]; omega
  | ⟨1, _⟩ => show win0_3.index t 1 * 1 + 1 * (j 1).val = (j 1).val; rw [show win0_3.index t 1 = 0 from rfl]; omega

/-- Every point's block, as it is written back, is the result read there. -/
theorem written_back (c : Dev nD) (t : Fin cfg0.N) :
    (dats m 0 c).flushed 3 t = ((cfg0.win 3).blk t).view.read (Elt F) (result m c) := by
  show (cfg0.win 3).cut (grid0.coords t) ((dats m 0 c).after 3 t) = _
  rw [after0_3]
  generalize result m c = out
  funext j
  rw [View.read_apply]
  exact congrArg out (block_whole t j).symm

/-- The last point. -/
def lastPoint : Fin cfg0.N := ⟨30, by rw [grid_count]; decide⟩

/-- After the last point the result array holds the result. -/
theorem array_after (c : Dev nD) : (dats m 0 c).arrAt 3 cfg0.N = result m c :=
  (dats m 0 c).arrAt_eq_of_cover 3 (result m c) (fun t _ => written_back m c t) fun i =>
    ⟨lastPoint, (flush0_3 lastPoint).mpr rfl, by
      have h := ((cfg0.win 3).blk lastPoint).view.emb_mem_set i
      rwa [block_whole lastPoint i] at h⟩

/-- What the host returns. -/
theorem returned (c : Dev nD) :
    Pipeline.afterTail₀ cfgs (dats m) 0 (V0 m) [hostOps1] c main_v0
      = shapeCast S32 (result m c) shapeCasts_S32x1_S32 := by
  unfold Pipeline.afterTail₀
  simp only [hostOps1, List.flatten_cons, List.flatten_nil, List.append_nil, StableHlo.after_cons, StableHlo.after_nil]
  refine (StableHlo.reshape_result (main_call0_v0 : Ref sig .tc) (main_v0 : Ref sig .tc) _ _ _ _ _).trans ?_
  rw [show Pipeline.withArrays (cfgs 0).spec c (V0 m c) (fun w => (dats m 0 c).arrAt w (cfgs 0).N) (Proc.devRef .tc main_call0_v0)
      = (dats m 0 c).arrAt 3 cfg0.N from Pipeline.withArrays_arr spec0 launch0.win.arr_inj c (V0 m c) _ 3, array_after]
  rfl

/-- The kernel's run returns the result without its second axis, and leaves the argument as it was. -/
theorem run : θ_run defs (onTc (τ := τ) (main (F := F))) ⟨m, fun _ => 0, ρ⟩ fun r => ∀ c : Dev nD,
      r.2.mem ((c.tc : Thread nD τ).loc main_v0) = shapeCast S32 (result m c) shapeCasts_S32x1_S32
      ∧ r.2.mem ((c.tc : Thread nD τ).loc main_arg0) = m ((c.tc : Thread nD τ).loc main_arg0) :=
  (θ_run defs _ _).mono (fun _ h c => ⟨((h.1.1 c).2 main_v0 (by decide)).trans (returned m c), h.2.1 c⟩)
    (θ_run_and (run_main m ρ) (frame m ρ))

end Cert.KernelIdeal.Gumbel
-- ==== Proof.Equal.lean ====
module

public import proofs.«01_k».proof.Defs
public import proofs.«01_k».proof.Proof.Answer
public import proofs.«01_k».proof.Proof.Returned

@[expose] public section

/-! # The kernel and the reference return the same positions -/

noncomputable section

namespace Cert.Gumbel

open Idealize.ShloMosaic Idealize.ShloMosaic.TcCoe Idealize.ShloMosaic.StableHlo Idealize.SL.Sem

/-- Dropping the second axis keeps each row's entry. -/
theorem drop_axis (x : IVec Cert.KernelIdeal.S32x1 32) (r : Fin 32) :
    shapeCast Cert.KernelIdeal.S32 x Cert.KernelIdeal.Gen.shapeCasts_S32x1_S32 (ix1 r) = x (ix2 r 0) := by
  simp only [pointwise]

/-- The reference's answer on the kernel's logits is the kernel's. -/
theorem same_answer (V : Valuation Cert.ReferenceIdeal.τ Cert.ReferenceIdeal.sig (Elt Ideal))
    (m : (ℓ : Loc Cert.KernelIdeal.nD Cert.KernelIdeal.τ Cert.KernelIdeal.sig) → Buf (Elt Ideal) ℓ) (c : Dev Cert.KernelIdeal.nD)
    (h : V (Proc.devRef .tc Cert.ReferenceIdeal.main_arg0) = Cert.KernelIdeal.Gumbel.logits m c) :
    Cert.ReferenceIdeal.Gumbel.firstBest (Cert.ReferenceIdeal.Value.res_main_v314 V)
      = shapeCast Cert.KernelIdeal.S32 (Cert.KernelIdeal.Gumbel.result m c) Cert.KernelIdeal.Gen.shapeCasts_S32x1_S32 := by
  funext j
  obtain ⟨r, rfl⟩ : ∃ r : Fin 32, j = ix1 r := ⟨j 0, ValueIdx.eq_ix1 j⟩
  rw [drop_axis, ← Cert.ReferenceIdeal.Gumbel.answers_eq V r, h]
  rfl

/-- From memories that agree on the logits, both programs return the same positions. -/
theorem algebraic : algebraic_KernelIdeal_ReferenceIdeal (hKernelIdeal := Cert.KernelIdeal.Gen.facts)
    (hReferenceIdeal := Cert.ReferenceIdeal.Gen.facts) := fun m g m' g' _ e =>
  ⟨fun c => shapeCast Cert.KernelIdeal.S32 (Cert.KernelIdeal.Gumbel.result m c) Cert.KernelIdeal.Gen.shapeCasts_S32x1_S32,
    Cert.KernelIdeal.Gumbel.run m g,
    (θ_run _ _ _).mono (fun _ h c => ⟨(h c).1.trans (same_answer (launchContents m' c) m c (e c)), (h c).2⟩)
      (Cert.ReferenceIdeal.Value.run m' g')⟩

end Cert.Gumbel
-- ==== Proof.lean ====
module

public import proofs.«01_k».proof.Defs
public import proofs.«01_k».proof.Proof.Frames
public import proofs.«01_k».proof.Proof.Equal

@[expose] public section

noncomputable section

namespace Cert.Proof

open Cert.Gumbel

theorem claim : Cert.Claim :=
  ⟨Cert.Kernel.Gen.facts, Cert.KernelIdeal.Gen.facts, Cert.ReferenceIdeal.Gen.facts, kernel_frame, kernel_ideal_frame,
    reference_frame, trivial, algebraic⟩

end Cert.Proof

end
